-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.BufferStatement Cert.KernelIdeal.S256x2x256 Cert.KernelIdeal.S256x1x256
  ∧ IdealRules.bf16_pair.PackStatement Cert.KernelIdeal.S16x256
  ∧ IdealRules.bf16_pair.Statement Cert.KernelIdeal.S16x2x256 Cert.KernelIdeal.S16x1x256
  ∧ IdealRules.bf16_pair.Statement Cert.KernelIdeal.S32x256 Cert.KernelIdeal.S16x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x4096 : Shape := ⟨3, ![256, 1, 4096]⟩
abbrev S14336x16x2x64 : Shape := ⟨4, ![14336, 16, 2, 64]⟩
abbrev S14336x16x2x32 : Shape := ⟨4, ![14336, 16, 2, 32]⟩
abbrev S14336x16x16 : Shape := ⟨3, ![14336, 16, 16]⟩
abbrev S14336x16 : Shape := ⟨2, ![14336, 16]⟩
abbrev S256x4096 : Shape := ⟨2, ![256, 4096]⟩
abbrev S16x2x64x14336 : Shape := ⟨4, ![16, 2, 64, 14336]⟩
abbrev S2048x14336 : Shape := ⟨2, ![2048, 14336]⟩
abbrev S16x2x32x14336 : Shape := ⟨4, ![16, 2, 32, 14336]⟩
abbrev S1024x14336 : Shape := ⟨2, ![1024, 14336]⟩
abbrev S16x16x14336 : Shape := ⟨3, ![16, 16, 14336]⟩
abbrev S16x14336 : Shape := ⟨2, ![16, 14336]⟩
abbrev S256x14336 : Shape := ⟨2, ![256, 14336]⟩
abbrev S2048x256 : Shape := ⟨2, ![2048, 256]⟩
abbrev S1024x256 : Shape := ⟨2, ![1024, 256]⟩
abbrev S16x16x256 : Shape := ⟨3, ![16, 16, 256]⟩
abbrev S16x256 : Shape := ⟨2, ![16, 256]⟩
abbrev S256x256 : Shape := ⟨2, ![256, 256]⟩
abbrev S1x16x256 : Shape := ⟨3, ![1, 16, 256]⟩
abbrev S1x256 : Shape := ⟨2, ![1, 256]⟩
abbrev S32x256 : Shape := ⟨2, ![32, 256]⟩
abbrev S8x256 : Shape := ⟨2, ![8, 256]⟩

abbrev nBuf : Space → Nat
  | .hbm => 23
  | .vmem => 21
  | .smem => 0
  | _ => 0

abbrev bufTy : (tb : Table) → Fin (tcTables nBuf tb) → BufTy
  | .hbm, ⟨0, _⟩ => ⟨S256x1x4096, .bf16⟩
  | .hbm, ⟨1, _⟩ => ⟨S14336x16x2x64, .i8⟩
  | .hbm, ⟨2, _⟩ => ⟨S14336x16x2x32, .i8⟩
  | .hbm, ⟨3, _⟩ => ⟨S14336x16x16, .i8⟩
  | .hbm, ⟨4, _⟩ => ⟨S14336x16, .i16⟩
  | .hbm, ⟨5, _⟩ => ⟨S14336x16x2x64, .i8⟩
  | .hbm, ⟨6, _⟩ => ⟨S14336x16x2x32, .i8⟩
  | .hbm, ⟨7, _⟩ => ⟨S14336x16x16, .i8⟩
  | .hbm, ⟨8, _⟩ => ⟨S14336x16, .i16⟩
  | .hbm, ⟨9, _⟩ => ⟨S256x4096, .bf16⟩
  | .hbm, ⟨10, _⟩ => ⟨S16x2x64x14336, .i8⟩
  | .hbm, ⟨11, _⟩ => ⟨S2048x14336, .i8⟩
  | .hbm, ⟨12, _⟩ => ⟨S16x2x32x14336, .i8⟩
  | .hbm, ⟨13, _⟩ => ⟨S1024x14336, .i8⟩
  | .hbm, ⟨14, _⟩ => ⟨S16x16x14336, .i8⟩
  | .hbm, ⟨15, _⟩ => ⟨S16x14336, .i16⟩
  | .hbm, ⟨16, _⟩ => ⟨S16x2x64x14336, .i8⟩
  | .hbm, ⟨17, _⟩ => ⟨S2048x14336, .i8⟩
  | .hbm, ⟨18, _⟩ => ⟨S16x2x32x14336, .i8⟩
  | .hbm, ⟨19, _⟩ => ⟨S1024x14336, .i8⟩
  | .hbm, ⟨20, _⟩ => ⟨S16x16x14336, .i8⟩
  | .hbm, ⟨21, _⟩ => ⟨S16x14336, .i16⟩
  | .hbm, ⟨22, _⟩ => ⟨S256x14336, .bf16⟩
  | .local _ .vmem, ⟨0, _⟩ => ⟨S256x4096, .bf16⟩
  | .local _ .vmem, ⟨1, _⟩ => ⟨S2048x256, .i8⟩
  | .local _ .vmem, ⟨2, _⟩ => ⟨S2048x256, .i8⟩
  | .local _ .vmem, ⟨3, _⟩ => ⟨S1024x256, .i8⟩
  | .local _ .vmem, ⟨4, _⟩ => ⟨S1024x256, .i8⟩
  | .local _ .vmem, ⟨5, _⟩ => ⟨S16x16x256, .i8⟩
  | .local _ .vmem, ⟨6, _⟩ => ⟨S16x16x256, .i8⟩
  | .local _ .vmem, ⟨7, _⟩ => ⟨S16x256, .i16⟩
  | .local _ .vmem, ⟨8, _⟩ => ⟨S16x256, .i16⟩
  | .local _ .vmem, ⟨9, _⟩ => ⟨S2048x256, .i8⟩
  | .local _ .vmem, ⟨10, _⟩ => ⟨S2048x256, .i8⟩
  | .local _ .vmem, ⟨11, _⟩ => ⟨S1024x256, .i8⟩
  | .local _ .vmem, ⟨12, _⟩ => ⟨S1024x256, .i8⟩
  | .local _ .vmem, ⟨13, _⟩ => ⟨S16x16x256, .i8⟩
  | .local _ .vmem, ⟨14, _⟩ => ⟨S16x16x256, .i8⟩
  | .local _ .vmem, ⟨15, _⟩ => ⟨S16x256, .i16⟩
  | .local _ .vmem, ⟨16, _⟩ => ⟨S16x256, .i16⟩
  | .local _ .vmem, ⟨17, _⟩ => ⟨S256x256, .bf16⟩
  | .local _ .vmem, ⟨18, _⟩ => ⟨S256x256, .bf16⟩
  | .local _ .vmem, ⟨19, _⟩ => ⟨S256x256, .i32⟩
  | .local _ .vmem, ⟨20, _⟩ => ⟨S256x256, .i32⟩
  | _, _ => ⟨S256x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [BitOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x16x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x16x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .i16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
abbrev S256x2x256 : Shape := ⟨3, ![256, 2, 256]⟩
abbrev S256x1x256 : Shape := ⟨3, ![256, 1, 256]⟩
abbrev S16x2x256 : Shape := ⟨3, ![16, 2, 256]⟩
abbrev S16x1x256 : Shape := ⟨3, ![16, 1, 256]⟩
  | .local _ .vmem, ⟨19, _⟩ => ⟨S256x2x256, .bf16⟩
  | .local _ .vmem, ⟨20, _⟩ => ⟨S256x2x256, .bf16⟩
variable {F : FTy → Type} [FloatOps F]
-- ==== ReferenceIdeal.lean ====
abbrev S256x1x4096 : Shape := ⟨3, ![256, 1, 4096]⟩
abbrev S14336x16x2x64 : Shape := ⟨4, ![14336, 16, 2, 64]⟩
abbrev S14336x16x2x32 : Shape := ⟨4, ![14336, 16, 2, 32]⟩
abbrev S14336x16x16 : Shape := ⟨3, ![14336, 16, 16]⟩
abbrev S14336x16 : Shape := ⟨2, ![14336, 16]⟩
abbrev S256x1x16x2x4x32 : Shape := ⟨6, ![256, 1, 16, 2, 4, 32]⟩
abbrev S_ : Shape := ⟨0, ![]⟩
abbrev S14336x16x1 : Shape := ⟨3, ![14336, 16, 1]⟩
abbrev S14336x16x2x4x2x1 : Shape := ⟨6, ![14336, 16, 2, 4, 2, 1]⟩
abbrev S14336x16x2x2x16 : Shape := ⟨5, ![14336, 16, 2, 2, 16]⟩
abbrev S14336x16x2x1x2x1 : Shape := ⟨6, ![14336, 16, 2, 1, 2, 1]⟩
abbrev S14336x16x2x2x1 : Shape := ⟨5, ![14336, 16, 2, 2, 1]⟩
abbrev S256x1x16x2x1x32 : Shape := ⟨6, ![256, 1, 16, 2, 1, 32]⟩
abbrev S256x1x16x2x32 : Shape := ⟨5, ![256, 1, 16, 2, 32]⟩
abbrev S256x1x14336 : Shape := ⟨3, ![256, 1, 14336]⟩
abbrev S256x14336 : Shape := ⟨2, ![256, 14336]⟩

abbrev nBuf : Space → Nat
  | .hbm => 346
  | .vmem => 0
  | .smem => 0
  | _ => 0

abbrev hbmTy0_0 (i : Nat) : BufTy := match i % 128 with
  | 0 => ⟨S256x1x4096, .bf16⟩
  | 1 => ⟨S14336x16x2x64, .i8⟩
  | 2 => ⟨S14336x16x2x32, .i8⟩
  | 3 => ⟨S14336x16x16, .i8⟩
  | 4 => ⟨S14336x16, .i16⟩
  | 5 => ⟨S14336x16x2x64, .i8⟩
  | 6 => ⟨S14336x16x2x32, .i8⟩
  | 7 => ⟨S14336x16x16, .i8⟩
  | 8 => ⟨S14336x16, .i16⟩
  | 9 => ⟨S256x1x16x2x4x32, .bf16⟩
  | 10 => ⟨S14336x16x2x64, .i32⟩
  | 11 => ⟨S14336x16x2x32, .i32⟩
  | 12 => ⟨S14336x16x2x32, .i32⟩
  | 13 => ⟨S14336x16x2x32, .i32⟩
  | 14 => ⟨S_, .i32⟩
  | 15 => ⟨S14336x16x2x32, .i32⟩
  | 16 => ⟨S14336x16x2x32, .i32⟩
  | 17 => ⟨S_, .i32⟩
  | 18 => ⟨S14336x16x2x32, .i32⟩
  | 19 => ⟨S14336x16x2x32, .i32⟩
  | 20 => ⟨S_, .i32⟩
  | 21 => ⟨S14336x16x2x32, .i32⟩
  | 22 => ⟨S14336x16x2x32, .i32⟩
  | 23 => ⟨S14336x16x2x32, .i32⟩
  | 24 => ⟨S_, .i32⟩
  | 25 => ⟨S14336x16x2x32, .i32⟩
  | 26 => ⟨S14336x16x2x32, .i32⟩
  | 27 => ⟨S_, .i32⟩
  | 28 => ⟨S14336x16x2x32, .i32⟩
  | 29 => ⟨S14336x16x2x32, .i32⟩
  | 30 => ⟨S_, .i32⟩
  | 31 => ⟨S14336x16x2x32, .i32⟩
  | 32 => ⟨S14336x16x2x32, .i32⟩
  | 33 => ⟨S_, .i32⟩
  | 34 => ⟨S14336x16x2x32, .i32⟩
  | 35 => ⟨S14336x16x2x32, .i32⟩
  | 36 => ⟨S14336x16x2x32, .i32⟩
  | 37 => ⟨S_, .i32⟩
  | 38 => ⟨S14336x16x2x32, .i32⟩
  | 39 => ⟨S14336x16x2x32, .i32⟩
  | 40 => ⟨S_, .i32⟩
  | 41 => ⟨S14336x16x2x32, .i32⟩
  | 42 => ⟨S14336x16x2x32, .i32⟩
  | 43 => ⟨S_, .i32⟩
  | 44 => ⟨S14336x16x2x32, .i32⟩
  | 45 => ⟨S14336x16x2x32, .i32⟩
  | 46 => ⟨S_, .i32⟩
  | 47 => ⟨S14336x16x2x32, .i32⟩
  | 48 => ⟨S14336x16x2x32, .i32⟩
  | 49 => ⟨S14336x16x2x32, .i32⟩
  | 50 => ⟨S_, .i32⟩
  | 51 => ⟨S14336x16x2x32, .i32⟩
  | 52 => ⟨S14336x16x2x32, .i32⟩
  | 53 => ⟨S_, .i32⟩
  | 54 => ⟨S14336x16x2x32, .i32⟩
  | 55 => ⟨S14336x16x2x32, .i32⟩
  | 56 => ⟨S_, .i32⟩
  | 57 => ⟨S14336x16x2x32, .i32⟩
  | 58 => ⟨S14336x16x2x32, .i32⟩
  | 59 => ⟨S_, .i32⟩
  | 60 => ⟨S14336x16x2x32, .i32⟩
  | 61 => ⟨S14336x16x2x32, .i32⟩
  | 62 => ⟨S14336x16x2x32, .i32⟩
  | 63 => ⟨S14336x16, .i32⟩
  | 64 => ⟨S_, .i32⟩
  | 65 => ⟨S14336x16, .i32⟩
  | 66 => ⟨S14336x16, .i32⟩
  | 67 => ⟨S_, .i32⟩
  | 68 => ⟨S14336x16, .i32⟩
  | 69 => ⟨S14336x16, .i32⟩
  | 70 => ⟨S_, .i32⟩
  | 71 => ⟨S14336x16, .i32⟩
  | 72 => ⟨S14336x16, .i32⟩
  | 73 => ⟨S_, .i32⟩
  | 74 => ⟨S14336x16, .i32⟩
  | 75 => ⟨S14336x16, .i32⟩
  | 76 => ⟨S14336x16, .f32⟩
  | 77 => ⟨S_, .i32⟩
  | 78 => ⟨S14336x16, .i32⟩
  | 79 => ⟨S14336x16, .i32⟩
  | 80 => ⟨S14336x16, .f32⟩
  | 81 => ⟨S14336x16, .f32⟩
  | 82 => ⟨S_, .f32⟩
  | 83 => ⟨S14336x16, .f32⟩
  | 84 => ⟨S14336x16, .f32⟩
  | 85 => ⟨S14336x16, .f32⟩
  | 86 => ⟨S_, .f32⟩
  | 87 => ⟨S14336x16, .f32⟩
  | 88 => ⟨S14336x16, .f32⟩
  | 89 => ⟨S_, .i32⟩
  | 90 => ⟨S14336x16, .i32⟩
  | 91 => ⟨S14336x16, .i1⟩
  | 92 => ⟨S_, .f32⟩
  | 93 => ⟨S_, .f32⟩
  | 94 => ⟨S14336x16, .f32⟩
  | 95 => ⟨S14336x16, .f32⟩
  | 96 => ⟨S14336x16, .f32⟩
  | 97 => ⟨S_, .i32⟩
  | 98 => ⟨S14336x16, .i32⟩
  | 99 => ⟨S14336x16, .i1⟩
  | 100 => ⟨S_, .i32⟩
  | 101 => ⟨S14336x16, .i32⟩
  | 102 => ⟨S14336x16, .i1⟩
  | 103 => ⟨S14336x16, .f32⟩
  | 104 => ⟨S14336x16, .f32⟩
  | 105 => ⟨S_, .i32⟩
  | 106 => ⟨S14336x16, .i32⟩
  | 107 => ⟨S14336x16, .i1⟩
  | 108 => ⟨S14336x16, .f32⟩
  | 109 => ⟨S14336x16, .f32⟩
  | 110 => ⟨S14336x16x1, .f32⟩
  | 111 => ⟨S14336x16x16, .i32⟩
  | 112 => ⟨S14336x16x16, .f32⟩
  | 113 => ⟨S14336x16x16, .f32⟩
  | 114 => ⟨S14336x16x16, .f32⟩
  | 115 => ⟨S14336x16x16, .bf16⟩
  | 116 => ⟨S14336x16x2x4x2x1, .bf16⟩
  | 117 => ⟨S14336x16x2x32, .bf16⟩
  | 118 => ⟨S_, .bf16⟩
  | 119 => ⟨S14336x16x2x32, .bf16⟩
  | 120 => ⟨S14336x16x2x32, .bf16⟩
  | 121 => ⟨S14336x16x2x2x16, .bf16⟩
  | 122 => ⟨S14336x16x2x1x2x1, .bf16⟩
  | 123 => ⟨S14336x16x2x2x1, .bf16⟩
  | 124 => ⟨S14336x16x2x2x16, .bf16⟩
  | 125 => ⟨S14336x16x2x2x16, .bf16⟩
  | 126 => ⟨S14336x16x2x32, .bf16⟩
  | 127 => ⟨S256x1x16x2x1x32, .bf16⟩
  | _ => ⟨S256x1x4096, .bf16⟩

abbrev hbmTy0_1 (i : Nat) : BufTy := match i % 128 with
  | 0 => ⟨S256x1x16x2x32, .bf16⟩
  | 1 => ⟨S256x1x14336, .f32⟩
  | 2 => ⟨S14336x16x2x32, .bf16⟩
  | 3 => ⟨S_, .bf16⟩
  | 4 => ⟨S14336x16x2x32, .bf16⟩
  | 5 => ⟨S14336x16x2x32, .bf16⟩
  | 6 => ⟨S14336x16x2x2x16, .bf16⟩
  | 7 => ⟨S14336x16x2x1x2x1, .bf16⟩
  | 8 => ⟨S14336x16x2x2x1, .bf16⟩
  | 9 => ⟨S14336x16x2x2x16, .bf16⟩
  | 10 => ⟨S14336x16x2x2x16, .bf16⟩
  | 11 => ⟨S14336x16x2x32, .bf16⟩
  | 12 => ⟨S256x1x16x2x1x32, .bf16⟩
  | 13 => ⟨S256x1x16x2x32, .bf16⟩
  | 14 => ⟨S256x1x14336, .f32⟩
  | 15 => ⟨S256x1x14336, .f32⟩
  | 16 => ⟨S14336x16x2x32, .bf16⟩
  | 17 => ⟨S_, .bf16⟩
  | 18 => ⟨S14336x16x2x32, .bf16⟩
  | 19 => ⟨S14336x16x2x32, .bf16⟩
  | 20 => ⟨S14336x16x2x2x16, .bf16⟩
  | 21 => ⟨S14336x16x2x1x2x1, .bf16⟩
  | 22 => ⟨S14336x16x2x2x1, .bf16⟩
  | 23 => ⟨S14336x16x2x2x16, .bf16⟩
  | 24 => ⟨S14336x16x2x2x16, .bf16⟩
  | 25 => ⟨S14336x16x2x32, .bf16⟩
  | 26 => ⟨S256x1x16x2x1x32, .bf16⟩
  | 27 => ⟨S256x1x16x2x32, .bf16⟩
  | 28 => ⟨S256x1x14336, .f32⟩
  | 29 => ⟨S256x1x14336, .f32⟩
  | 30 => ⟨S14336x16x2x32, .bf16⟩
  | 31 => ⟨S_, .bf16⟩
  | 32 => ⟨S14336x16x2x32, .bf16⟩
  | 33 => ⟨S14336x16x2x32, .bf16⟩
  | 34 => ⟨S14336x16x2x2x16, .bf16⟩
  | 35 => ⟨S14336x16x2x1x2x1, .bf16⟩
  | 36 => ⟨S14336x16x2x2x1, .bf16⟩
  | 37 => ⟨S14336x16x2x2x16, .bf16⟩
  | 38 => ⟨S14336x16x2x2x16, .bf16⟩
  | 39 => ⟨S14336x16x2x32, .bf16⟩
  | 40 => ⟨S256x1x16x2x1x32, .bf16⟩
  | 41 => ⟨S256x1x16x2x32, .bf16⟩
  | 42 => ⟨S256x1x14336, .f32⟩
  | 43 => ⟨S256x1x14336, .f32⟩
  | 44 => ⟨S14336x16x2x64, .i32⟩
  | 45 => ⟨S14336x16x2x32, .i32⟩
  | 46 => ⟨S14336x16x2x32, .i32⟩
  | 47 => ⟨S14336x16x2x32, .i32⟩
  | 48 => ⟨S_, .i32⟩
  | 49 => ⟨S14336x16x2x32, .i32⟩
  | 50 => ⟨S14336x16x2x32, .i32⟩
  | 51 => ⟨S_, .i32⟩
  | 52 => ⟨S14336x16x2x32, .i32⟩
  | 53 => ⟨S14336x16x2x32, .i32⟩
  | 54 => ⟨S_, .i32⟩
  | 55 => ⟨S14336x16x2x32, .i32⟩
  | 56 => ⟨S14336x16x2x32, .i32⟩
  | 57 => ⟨S14336x16x2x32, .i32⟩
  | 58 => ⟨S_, .i32⟩
  | 59 => ⟨S14336x16x2x32, .i32⟩
  | 60 => ⟨S14336x16x2x32, .i32⟩
  | 61 => ⟨S_, .i32⟩
  | 62 => ⟨S14336x16x2x32, .i32⟩
  | 63 => ⟨S14336x16x2x32, .i32⟩
  | 64 => ⟨S_, .i32⟩
  | 65 => ⟨S14336x16x2x32, .i32⟩
  | 66 => ⟨S14336x16x2x32, .i32⟩
  | 67 => ⟨S_, .i32⟩
  | 68 => ⟨S14336x16x2x32, .i32⟩
  | 69 => ⟨S14336x16x2x32, .i32⟩
  | 70 => ⟨S14336x16x2x32, .i32⟩
  | 71 => ⟨S_, .i32⟩
  | 72 => ⟨S14336x16x2x32, .i32⟩
  | 73 => ⟨S14336x16x2x32, .i32⟩
  | 74 => ⟨S_, .i32⟩
  | 75 => ⟨S14336x16x2x32, .i32⟩
  | 76 => ⟨S14336x16x2x32, .i32⟩
  | 77 => ⟨S_, .i32⟩
  | 78 => ⟨S14336x16x2x32, .i32⟩
  | 79 => ⟨S14336x16x2x32, .i32⟩
  | 80 => ⟨S_, .i32⟩
  | 81 => ⟨S14336x16x2x32, .i32⟩
  | 82 => ⟨S14336x16x2x32, .i32⟩
  | 83 => ⟨S14336x16x2x32, .i32⟩
  | 84 => ⟨S_, .i32⟩
  | 85 => ⟨S14336x16x2x32, .i32⟩
  | 86 => ⟨S14336x16x2x32, .i32⟩
  | 87 => ⟨S_, .i32⟩
  | 88 => ⟨S14336x16x2x32, .i32⟩
  | 89 => ⟨S14336x16x2x32, .i32⟩
  | 90 => ⟨S_, .i32⟩
  | 91 => ⟨S14336x16x2x32, .i32⟩
  | 92 => ⟨S14336x16x2x32, .i32⟩
  | 93 => ⟨S_, .i32⟩
  | 94 => ⟨S14336x16x2x32, .i32⟩
  | 95 => ⟨S14336x16x2x32, .i32⟩
  | 96 => ⟨S14336x16x2x32, .i32⟩
  | 97 => ⟨S14336x16, .i32⟩
  | 98 => ⟨S_, .i32⟩
  | 99 => ⟨S14336x16, .i32⟩
  | 100 => ⟨S14336x16, .i32⟩
  | 101 => ⟨S_, .i32⟩
  | 102 => ⟨S14336x16, .i32⟩
  | 103 => ⟨S14336x16, .i32⟩
  | 104 => ⟨S_, .i32⟩
  | 105 => ⟨S14336x16, .i32⟩
  | 106 => ⟨S14336x16, .i32⟩
  | 107 => ⟨S_, .i32⟩
  | 108 => ⟨S14336x16, .i32⟩
  | 109 => ⟨S14336x16, .i32⟩
  | 110 => ⟨S14336x16, .f32⟩
  | 111 => ⟨S_, .i32⟩
  | 112 => ⟨S14336x16, .i32⟩
  | 113 => ⟨S14336x16, .i32⟩
  | 114 => ⟨S14336x16, .f32⟩
  | 115 => ⟨S14336x16, .f32⟩
  | 116 => ⟨S_, .f32⟩
  | 117 => ⟨S14336x16, .f32⟩
  | 118 => ⟨S14336x16, .f32⟩
  | 119 => ⟨S14336x16, .f32⟩
  | 120 => ⟨S_, .f32⟩
  | 121 => ⟨S14336x16, .f32⟩
  | 122 => ⟨S14336x16, .f32⟩
  | 123 => ⟨S_, .i32⟩
  | 124 => ⟨S14336x16, .i32⟩
  | 125 => ⟨S14336x16, .i1⟩
  | 126 => ⟨S_, .f32⟩
  | 127 => ⟨S_, .f32⟩
  | _ => ⟨S256x1x4096, .bf16⟩

abbrev hbmTy0_2 (i : Nat) : BufTy := match i % 128 with
  | 0 => ⟨S14336x16, .f32⟩
  | 1 => ⟨S14336x16, .f32⟩
  | 2 => ⟨S14336x16, .f32⟩
  | 3 => ⟨S_, .i32⟩
  | 4 => ⟨S14336x16, .i32⟩
  | 5 => ⟨S14336x16, .i1⟩
  | 6 => ⟨S_, .i32⟩
  | 7 => ⟨S14336x16, .i32⟩
  | 8 => ⟨S14336x16, .i1⟩
  | 9 => ⟨S14336x16, .f32⟩
  | 10 => ⟨S14336x16, .f32⟩
  | 11 => ⟨S_, .i32⟩
  | 12 => ⟨S14336x16, .i32⟩
  | 13 => ⟨S14336x16, .i1⟩
  | 14 => ⟨S14336x16, .f32⟩
  | 15 => ⟨S14336x16, .f32⟩
  | 16 => ⟨S14336x16x1, .f32⟩
  | 17 => ⟨S14336x16x16, .i32⟩
  | 18 => ⟨S14336x16x16, .f32⟩
  | 19 => ⟨S14336x16x16, .f32⟩
  | 20 => ⟨S14336x16x16, .f32⟩
  | 21 => ⟨S14336x16x16, .bf16⟩
  | 22 => ⟨S14336x16x2x4x2x1, .bf16⟩
  | 23 => ⟨S14336x16x2x32, .bf16⟩
  | 24 => ⟨S_, .bf16⟩
  | 25 => ⟨S14336x16x2x32, .bf16⟩
  | 26 => ⟨S14336x16x2x32, .bf16⟩
  | 27 => ⟨S14336x16x2x2x16, .bf16⟩
  | 28 => ⟨S14336x16x2x1x2x1, .bf16⟩
  | 29 => ⟨S14336x16x2x2x1, .bf16⟩
  | 30 => ⟨S14336x16x2x2x16, .bf16⟩
  | 31 => ⟨S14336x16x2x2x16, .bf16⟩
  | 32 => ⟨S14336x16x2x32, .bf16⟩
  | 33 => ⟨S256x1x16x2x1x32, .bf16⟩
  | 34 => ⟨S256x1x16x2x32, .bf16⟩
  | 35 => ⟨S256x1x14336, .f32⟩
  | 36 => ⟨S14336x16x2x32, .bf16⟩
  | 37 => ⟨S_, .bf16⟩
  | 38 => ⟨S14336x16x2x32, .bf16⟩
  | 39 => ⟨S14336x16x2x32, .bf16⟩
  | 40 => ⟨S14336x16x2x2x16, .bf16⟩
  | 41 => ⟨S14336x16x2x1x2x1, .bf16⟩
  | 42 => ⟨S14336x16x2x2x1, .bf16⟩
  | 43 => ⟨S14336x16x2x2x16, .bf16⟩
  | 44 => ⟨S14336x16x2x2x16, .bf16⟩
  | 45 => ⟨S14336x16x2x32, .bf16⟩
  | 46 => ⟨S256x1x16x2x1x32, .bf16⟩
  | 47 => ⟨S256x1x16x2x32, .bf16⟩
  | 48 => ⟨S256x1x14336, .f32⟩
  | 49 => ⟨S256x1x14336, .f32⟩
  | 50 => ⟨S14336x16x2x32, .bf16⟩
  | 51 => ⟨S_, .bf16⟩
  | 52 => ⟨S14336x16x2x32, .bf16⟩
  | 53 => ⟨S14336x16x2x32, .bf16⟩
  | 54 => ⟨S14336x16x2x2x16, .bf16⟩
  | 55 => ⟨S14336x16x2x1x2x1, .bf16⟩
  | 56 => ⟨S14336x16x2x2x1, .bf16⟩
  | 57 => ⟨S14336x16x2x2x16, .bf16⟩
  | 58 => ⟨S14336x16x2x2x16, .bf16⟩
  | 59 => ⟨S14336x16x2x32, .bf16⟩
  | 60 => ⟨S256x1x16x2x1x32, .bf16⟩
  | 61 => ⟨S256x1x16x2x32, .bf16⟩
  | 62 => ⟨S256x1x14336, .f32⟩
  | 63 => ⟨S256x1x14336, .f32⟩
  | 64 => ⟨S14336x16x2x32, .bf16⟩
  | 65 => ⟨S_, .bf16⟩
  | 66 => ⟨S14336x16x2x32, .bf16⟩
  | 67 => ⟨S14336x16x2x32, .bf16⟩
  | 68 => ⟨S14336x16x2x2x16, .bf16⟩
  | 69 => ⟨S14336x16x2x1x2x1, .bf16⟩
  | 70 => ⟨S14336x16x2x2x1, .bf16⟩
  | 71 => ⟨S14336x16x2x2x16, .bf16⟩
  | 72 => ⟨S14336x16x2x2x16, .bf16⟩
  | 73 => ⟨S14336x16x2x32, .bf16⟩
  | 74 => ⟨S256x1x16x2x1x32, .bf16⟩
  | 75 => ⟨S256x1x16x2x32, .bf16⟩
  | 76 => ⟨S256x1x14336, .f32⟩
  | 77 => ⟨S256x1x14336, .f32⟩
  | 78 => ⟨S256x1x14336, .f32⟩
  | 79 => ⟨S256x1x14336, .f32⟩
  | 80 => ⟨S_, .f32⟩
  | 81 => ⟨S256x1x14336, .f32⟩
  | 82 => ⟨S256x1x14336, .f32⟩
  | 83 => ⟨S_, .f32⟩
  | 84 => ⟨S256x1x14336, .f32⟩
  | 85 => ⟨S256x1x14336, .f32⟩
  | 86 => ⟨S256x1x14336, .f32⟩
  | 87 => ⟨S256x1x14336, .f32⟩
  | 88 => ⟨S256x1x14336, .bf16⟩
  | 89 => ⟨S256x14336, .bf16⟩
  | _ => ⟨S256x1x4096, .bf16⟩

abbrev hbmTy (i : Nat) : BufTy := match i / 128 with
  | 0 => hbmTy0_0 i
  | 1 => hbmTy0_1 i
  | 2 => hbmTy0_2 i
  | _ => ⟨S256x1x4096, .bf16⟩

abbrev bufTy : (tb : Table) → Fin (tcTables nBuf tb) → BufTy
  | .hbm, ⟨i, _⟩ => hbmTy i
  | _, _ => ⟨S256x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_c_7 : Ref sig .tc := ⟨.hbm, 40, rfl⟩
abbrev main_v23 : Ref sig .tc := ⟨.hbm, 41, rfl⟩
abbrev main_v24 : Ref sig .tc := ⟨.hbm, 42, rfl⟩
abbrev main_c_8 : Ref sig .tc := ⟨.hbm, 43, rfl⟩
abbrev main_v25 : Ref sig .tc := ⟨.hbm, 44, rfl⟩
abbrev main_v26 : Ref sig .tc := ⟨.hbm, 45, rfl⟩
abbrev main_c_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_10 : Ref sig .tc := ⟨.hbm, 50, rfl⟩
abbrev main_v30 : Ref sig .tc := ⟨.hbm, 51, rfl⟩
abbrev main_v31 : Ref sig .tc := ⟨.hbm, 52, rfl⟩
abbrev main_c_11 : Ref sig .tc := ⟨.hbm, 53, rfl⟩
abbrev main_v32 : Ref sig .tc := ⟨.hbm, 54, rfl⟩
abbrev main_v33 : Ref sig .tc := ⟨.hbm, 55, rfl⟩
abbrev main_c_12 : Ref sig .tc := ⟨.hbm, 56, rfl⟩
abbrev main_v34 : Ref sig .tc := ⟨.hbm, 57, rfl⟩
abbrev main_v35 : Ref sig .tc := ⟨.hbm, 58, rfl⟩
abbrev main_c_13 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_14 : Ref sig .tc := ⟨.hbm, 64, rfl⟩
abbrev main_v40 : Ref sig .tc := ⟨.hbm, 65, rfl⟩
abbrev main_v41 : Ref sig .tc := ⟨.hbm, 66, rfl⟩
abbrev main_c_15 : Ref sig .tc := ⟨.hbm, 67, rfl⟩
abbrev main_v42 : Ref sig .tc := ⟨.hbm, 68, rfl⟩
abbrev main_v43 : Ref sig .tc := ⟨.hbm, 69, rfl⟩
abbrev main_c_16 : Ref sig .tc := ⟨.hbm, 70, rfl⟩
abbrev main_v44 : Ref sig .tc := ⟨.hbm, 71, rfl⟩
abbrev main_v45 : Ref sig .tc := ⟨.hbm, 72, rfl⟩
abbrev main_c_17 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_18 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_19 : Ref sig .tc := ⟨.hbm, 86, rfl⟩
abbrev main_v56 : Ref sig .tc := ⟨.hbm, 87, rfl⟩
abbrev main_v57 : Ref sig .tc := ⟨.hbm, 88, rfl⟩
abbrev main_c_20 : Ref sig .tc := ⟨.hbm, 89, rfl⟩
abbrev main_v58 : Ref sig .tc := ⟨.hbm, 90, rfl⟩
abbrev main_v59 : Ref sig .tc := ⟨.hbm, 91, rfl⟩
abbrev main_cst_21 : Ref sig .tc := ⟨.hbm, 92, rfl⟩
abbrev main_cst_22 : Ref sig .tc := ⟨.hbm, 93, rfl⟩
abbrev main_call0_v0 : Ref sig .tc := ⟨.hbm, 94, rfl⟩
abbrev main_call0_v1 : Ref sig .tc := ⟨.hbm, 95, rfl⟩
abbrev main_v60 : Ref sig .tc := ⟨.hbm, 96, rfl⟩
abbrev main_c_23 : Ref sig .tc := ⟨.hbm, 97, rfl⟩
abbrev main_v61 : Ref sig .tc := ⟨.hbm, 98, rfl⟩
abbrev main_v62 : Ref sig .tc := ⟨.hbm, 99, rfl⟩
abbrev main_c_24 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_25 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_26 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_27 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_28 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_29 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_c_30 : Ref sig .tc := ⟨.hbm, 176, rfl⟩
abbrev main_v133 : Ref sig .tc := ⟨.hbm, 177, rfl⟩
abbrev main_v134 : Ref sig .tc := ⟨.hbm, 178, rfl⟩
abbrev main_c_31 : Ref sig .tc := ⟨.hbm, 179, rfl⟩
abbrev main_v135 : Ref sig .tc := ⟨.hbm, 180, rfl⟩
abbrev main_v136 : Ref sig .tc := ⟨.hbm, 181, rfl⟩
abbrev main_c_32 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_c_33 : Ref sig .tc := ⟨.hbm, 186, rfl⟩
abbrev main_v140 : Ref sig .tc := ⟨.hbm, 187, rfl⟩
abbrev main_v141 : Ref sig .tc := ⟨.hbm, 188, rfl⟩
abbrev main_c_34 : Ref sig .tc := ⟨.hbm, 189, rfl⟩
abbrev main_v142 : Ref sig .tc := ⟨.hbm, 190, rfl⟩
abbrev main_v143 : Ref sig .tc := ⟨.hbm, 191, rfl⟩
abbrev main_c_35 : Ref sig .tc := ⟨.hbm, 192, rfl⟩
abbrev main_v144 : Ref sig .tc := ⟨.hbm, 193, rfl⟩
abbrev main_v145 : Ref sig .tc := ⟨.hbm, 194, rfl⟩
abbrev main_c_36 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_c_37 : Ref sig .tc := ⟨.hbm, 199, rfl⟩
abbrev main_v149 : Ref sig .tc := ⟨.hbm, 200, rfl⟩
abbrev main_v150 : Ref sig .tc := ⟨.hbm, 201, rfl⟩
abbrev main_c_38 : Ref sig .tc := ⟨.hbm, 202, rfl⟩
abbrev main_v151 : Ref sig .tc := ⟨.hbm, 203, rfl⟩
abbrev main_v152 : Ref sig .tc := ⟨.hbm, 204, rfl⟩
abbrev main_c_39 : Ref sig .tc := ⟨.hbm, 205, rfl⟩
abbrev main_v153 : Ref sig .tc := ⟨.hbm, 206, rfl⟩
abbrev main_v154 : Ref sig .tc := ⟨.hbm, 207, rfl⟩
abbrev main_c_40 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_c_41 : Ref sig .tc := ⟨.hbm, 212, rfl⟩
abbrev main_v158 : Ref sig .tc := ⟨.hbm, 213, rfl⟩
abbrev main_v159 : Ref sig .tc := ⟨.hbm, 214, rfl⟩
abbrev main_c_42 : Ref sig .tc := ⟨.hbm, 215, rfl⟩
abbrev main_v160 : Ref sig .tc := ⟨.hbm, 216, rfl⟩
abbrev main_v161 : Ref sig .tc := ⟨.hbm, 217, rfl⟩
abbrev main_c_43 : Ref sig .tc := ⟨.hbm, 218, rfl⟩
abbrev main_v162 : Ref sig .tc := ⟨.hbm, 219, rfl⟩
abbrev main_v163 : Ref sig .tc := ⟨.hbm, 220, rfl⟩
abbrev main_c_44 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_c_45 : Ref sig .tc := ⟨.hbm, 226, rfl⟩
abbrev main_v168 : Ref sig .tc := ⟨.hbm, 227, rfl⟩
abbrev main_v169 : Ref sig .tc := ⟨.hbm, 228, rfl⟩
abbrev main_c_46 : Ref sig .tc := ⟨.hbm, 229, rfl⟩
abbrev main_v170 : Ref sig .tc := ⟨.hbm, 230, rfl⟩
abbrev main_v171 : Ref sig .tc := ⟨.hbm, 231, rfl⟩
abbrev main_c_47 : Ref sig .tc := ⟨.hbm, 232, rfl⟩
abbrev main_v172 : Ref sig .tc := ⟨.hbm, 233, rfl⟩
abbrev main_v173 : Ref sig .tc := ⟨.hbm, 234, rfl⟩
abbrev main_c_48 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_c_49 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_cst_50 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_cst_51 : Ref sig .tc := ⟨.hbm, 248, rfl⟩
abbrev main_v184 : Ref sig .tc := ⟨.hbm, 249, rfl⟩
abbrev main_v185 : Ref sig .tc := ⟨.hbm, 250, rfl⟩
abbrev main_c_52 : Ref sig .tc := ⟨.hbm, 251, rfl⟩
abbrev main_v186 : Ref sig .tc := ⟨.hbm, 252, rfl⟩
abbrev main_v187 : Ref sig .tc := ⟨.hbm, 253, rfl⟩
abbrev main_cst_53 : Ref sig .tc := ⟨.hbm, 254, rfl⟩
abbrev main_cst_54 : Ref sig .tc := ⟨.hbm, 255, rfl⟩
abbrev main_call4_v0 : Ref sig .tc := ⟨.hbm, 256, rfl⟩
abbrev main_call4_v1 : Ref sig .tc := ⟨.hbm, 257, rfl⟩
abbrev main_v188 : Ref sig .tc := ⟨.hbm, 258, rfl⟩
abbrev main_c_55 : Ref sig .tc := ⟨.hbm, 259, rfl⟩
abbrev main_v189 : Ref sig .tc := ⟨.hbm, 260, rfl⟩
abbrev main_v190 : Ref sig .tc := ⟨.hbm, 261, rfl⟩
abbrev main_c_56 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_c_57 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_cst_58 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_cst_59 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_cst_60 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_cst_61 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_cst_62 : Ref sig .tc := ⟨.hbm, 336, rfl⟩
abbrev main_v259 : Ref sig .tc := ⟨.hbm, 337, rfl⟩
abbrev main_v260 : Ref sig .tc := ⟨.hbm, 338, rfl⟩
abbrev main_cst_63 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩

abbrev nD : Nat := 1
abbrev τ : Topo := Topo.v7x

variable {F : FTy → Type} [FloatOps F]
-- ==== Proof.Frames.lean ====
/- The frames of the three programs and the claim that the ideal kernel is the kernel rewritten by the two pair rules. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Bf16Pair
public import Idealize.ShloMosaic.Lib.Bf16PairInverse
public import Idealize.ShloMosaic.Lib.Quiescent

@[expose] public section

noncomputable section

namespace Cert.Proof

open Idealize.ShloMosaic Idealize.SL.Sem

/-- The kernel on machine words runs to the end from every memory and leaves its arguments as they were. -/
theorem frame_kernel : Cert.quiescent_Kernel := fun m ρ _ => Cert.Kernel.Gen.frame m ρ

/-- The kernel on extended reals runs to the end from every memory and leaves its arguments as they were. -/
theorem frame_ideal : Cert.quiescent_KernelIdeal := fun m ρ _ => Cert.KernelIdeal.Gen.frame m ρ

/-- The reference runs to the end from every memory and leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the two rules wrote for the packed scale words is what those words are: the scratch buffer held as rows of
    bfloat16 pairs, the pack of a value with itself, a block of words loaded and stored as its rows, and a block of words
    read as twice as many bfloat16 rows. -/
theorem preserves : Cert.preserves_Kernel_KernelIdeal :=
  open Cert.KernelIdeal IdealRules.bf16_pair in
  ⟨bufferStatement S256x2x256 S256x1x256, packStatement S16x256, statement S16x2x256 S16x1x256,
    statement S32x256 S16x256⟩

end Cert.Proof

end
-- ==== Proof.Kern.lean ====
/- The kernel's body in structured form: the blocks of decoded weights, the two sums over the blocks, and the output block. -/
module

public import proofs.«01_k».proof.Proof.Gen.KernelIdeal.Value

@[expose] public section

set_option maxRecDepth 16384

noncomputable section

namespace Cert.Proof

open Idealize.ShloMosaic Idealize.ShloMosaic.TcCoe Idealize.SL.Sem
open Cert.KernelIdeal Cert.KernelIdeal.Gen

variable {F : FTy → Type} [FloatOps F]

/-- A row of the table of scales lies inside it. -/
theorem slices_row (k : Fin 16) : S32x256.Slices ![2 * k.val, 0] S1x256 := by decide +revert
/-- Half of a field's 32 rows lies inside them. -/
theorem slices_half (j : Fin 2) : S32x256.Slices ![16 * j.val, 0] S16x256 := by decide +revert
/-- A row of the superblocks' scales lies inside them. -/
theorem slices_d (n : Fin 16) : S16x256.Slices ![n.val, 0] S1x256 := by decide +revert
/-- The columns of a superblock lie inside the activations. -/
theorem inb_x (n : Fin 16) : ∀ a, (![0, 256 * n.val] : Fin 2 → ℕ) a + S256x256.size a ≤ S256x4096.size a := by decide +revert
/-- Each group of 32 rows lies inside the low code bits. -/
theorem inb_ql (n : Fin 64) : ∀ a, (![32 * n.val, 0] : Fin 2 → ℕ) a + S32x256.size a ≤ S2048x256.size a := by decide +revert
/-- Each group of 32 rows lies inside the high code bits. -/
theorem inb_qh (n : Fin 32) : ∀ a, (![32 * n.val, 0] : Fin 2 → ℕ) a + S32x256.size a ≤ S1024x256.size a := by decide +revert
/-- The scales of a superblock lie inside the block of scales. -/
theorem inb_sc (n : Fin 16) : ∀ a, (![n.val, 0, 0] : Fin 3 → ℕ) a + S1x16x256.size a ≤ S16x16x256.size a := by decide +revert
/-- The rows of a superblock lie inside the scratch buffer. -/
theorem inb_s (n : Fin 16) : ∀ a, (![16 * n.val, 0, 0] : Fin 3 → ℕ) a + S16x2x256.size a ≤ S256x2x256.size a := by decide +revert

/-- Columns `256 n` to `256 n + 255` of the activations. -/
abbrev rectX (n : Fin 16) : Rect S256x4096 := Rect.unit (s := S256x4096) ![0, 256 * n.val] S256x256.size (inb_x n)
/-- Rows `32 n` to `32 n + 31` of the low code bits. -/
abbrev rectQl (n : Fin 64) : Rect S2048x256 := Rect.unit (s := S2048x256) ![32 * n.val, 0] S32x256.size (inb_ql n)
/-- Rows `32 n` to `32 n + 31` of the high code bits. -/
abbrev rectQh (n : Fin 32) : Rect S1024x256 := Rect.unit (s := S1024x256) ![32 * n.val, 0] S32x256.size (inb_qh n)
/-- The scales of superblock `n`. -/
abbrev rectSc (n : Fin 16) : Rect S16x16x256 := Rect.unit (s := S16x16x256) ![n.val, 0, 0] S1x16x256.size (inb_sc n)
/-- The rows of the scratch buffer that belong to superblock `n`. -/
abbrev rectS (n : Fin 16) : Rect S256x2x256 := Rect.unit (s := S256x2x256) ![16 * n.val, 0, 0] S16x2x256.size (inb_s n)

/-- The half-precision numbers of a block of bit patterns. -/
def halfVec (d : Vec F S16x256 .i16) : FVec F S16x256 .f32 :=
  let w : IVec S16x256 32 := extsi 32 (shapeCast S16x256 d shapeCasts_S16x256_S16x256) natLt_16_32
  let mag := shli (andi w (broadcast S16x256 32767#32)) (broadcast S16x256 13#32)
  let exp := andi w (broadcast S16x256 31744#32)
  let bias : IVec S16x256 32 := select (cmpi .eq exp (broadcast S16x256 31744#32)) (broadcast S16x256 1879048192#32) (broadcast S16x256 939524096#32)
  let normal : FVec F S16x256 .f32 := bitcastToFloat .f32 (addi mag bias)
  let sub : FVec F S16x256 .f32 := subf (bitcastToFloat .f32 (addi mag (broadcast S16x256 947912704#32)))
    (broadcast S16x256 (Scalar.ofBits .f32 0x38800000#32))
  let value : FVec F S16x256 .f32 := select (cmpi .eq exp (broadcast S16x256 0#32)) sub normal
  select (cmpi .eq (andi w (broadcast S16x256 32768#32)) (broadcast S16x256 0#32)) value
    (subf (broadcast S16x256 (Scalar.ofBits .f32 0x00000000#32)) value)

/-- The scales of superblock `n`, each written twice over: what is stored in the scratch buffer for it. -/
def scaleRows (hv : FVec F S16x256 .f32) (n : Fin 16) (sc : Vec F S1x16x256 .i8) : Vec F S16x2x256 .bf16 :=
  let v : FVec F S16x256 .bf16 := truncf .bf16 (mulf (sitofp .f32 (shapeCast S16x256 sc shapeCasts_S1x16x256_S16x256 : IVec S16x256 8))
    (broadcastTo S16x256 (mulf (extractStridedSlice S1x256 ![n.val, 0] hv (slices_d n))
      (broadcast S1x256 (Scalar.ofBits .f32 0x3E800000#32))) broadcasts_S1x256_S16x256)) bitsLt_bf16_f32
  interleaveRows S16x2x256 (shapeCast S16x1x256 v shapeCasts_S16x256_S16x1x256) (shapeCast S16x1x256 v shapeCasts_S16x256_S16x1x256)
    bitcasts_S16x2x256_w16_S16x1x256_w32

/-- A load of 32 rows of bytes as 8 rows of words. -/
def asWords (a : Vec F S32x256 .i8) : IVec S8x256 32 :=
  bitcast S8x256 32 (shapeCast S32x256 a shapeCasts_S32x256_S32x256 : IVec S32x256 8) bitcasts_S32x256_w8_S8x256_w32

/-- The four fields of 32 codes each (times four, as signed bytes) that half a superblock holds. -/
def field (lo hi qh : Vec F S32x256 .i8) (f : Fin 4) : IVec S8x256 32 :=
  let q : IVec S8x256 32 := xori (asWords qh) (broadcast S8x256 2863311530#32)
  let l : IVec S8x256 32 := asWords lo
  let h : IVec S8x256 32 := asWords hi
  match f with
  | 0 => ori (andi (shli q (broadcast S8x256 6#32)) (broadcast S8x256 3233857728#32)) (andi (shli l (broadcast S8x256 2#32)) (broadcast S8x256 1010580540#32))
  | 1 => ori (andi (shli q (broadcast S8x256 4#32)) (broadcast S8x256 3233857728#32)) (andi (shli h (broadcast S8x256 2#32)) (broadcast S8x256 1010580540#32))
  | 2 => ori (andi (shli q (broadcast S8x256 2#32)) (broadcast S8x256 3233857728#32)) (andi (shrsi l (broadcast S8x256 2#32)) (broadcast S8x256 1010580540#32))
  | 3 => ori (andi q (broadcast S8x256 3233857728#32)) (andi (shrsi h (broadcast S8x256 2#32)) (broadcast S8x256 1010580540#32))

/-- The 16 scales of a superblock as rows of bfloat16, each twice. -/
def scaleTable (raw : Vec F S16x2x256 .bf16) : FVec F S32x256 .bf16 :=
  interleaveRows S32x256
    (shapeCast S16x256 (rowsOfParity 0 S16x1x256 raw bitcasts_S16x2x256_w16_S16x1x256_w32) shapeCasts_S16x1x256_S16x256)
    (shapeCast S16x256 (rowsOfParity 1 S16x1x256 raw bitcasts_S16x2x256_w16_S16x1x256_w32) shapeCasts_S16x1x256_S16x256)
    bitcasts_S32x256_w16_S16x256_w32

/-- Sixteen rows of weights: half `j` of the codes in `w`, times scale `k`. -/
def piece (s : FVec F S32x256 .bf16) (w : IVec S8x256 32) (j : Fin 2) (k : Fin 16) : FVec F S16x256 .bf16 :=
  mulf (extractStridedSlice S16x256 ![16 * j.val, 0] (sitofp .bf16 (bitcast S32x256 8 w bitcasts_S8x256_w32_S32x256_w8) : FVec F S32x256 .bf16) (slices_half j))
    (broadcastTo S16x256 (shapeCast S1x256 (extractStridedSlice S1x256 ![2 * k.val, 0] s (slices_row k)) shapeCasts_S1x256_S1x256)
      broadcasts_S1x256_S16x256)

/-- The 256 rows of weights of one superblock. -/
def wblock (s : FVec F S32x256 .bf16) (w0 w1 : Fin 4 → IVec S8x256 32) : FVec F S256x256 .bf16 :=
  concatenate S256x256 0 [⟨S16x256, piece s (w0 0) 0 0⟩, ⟨S16x256, piece s (w0 0) 1 1⟩, ⟨S16x256, piece s (w0 1) 0 2⟩,
    ⟨S16x256, piece s (w0 1) 1 3⟩, ⟨S16x256, piece s (w0 2) 0 4⟩, ⟨S16x256, piece s (w0 2) 1 5⟩, ⟨S16x256, piece s (w0 3) 0 6⟩,
    ⟨S16x256, piece s (w0 3) 1 7⟩, ⟨S16x256, piece s (w1 0) 0 8⟩, ⟨S16x256, piece s (w1 0) 1 9⟩, ⟨S16x256, piece s (w1 1) 0 10⟩,
    ⟨S16x256, piece s (w1 1) 1 11⟩, ⟨S16x256, piece s (w1 2) 0 12⟩, ⟨S16x256, piece s (w1 2) 1 13⟩, ⟨S16x256, piece s (w1 3) 0 14⟩,
    ⟨S16x256, piece s (w1 3) 1 15⟩] concatenates_S16x256_S16x256_S16x256_S16x256_S16x256_S16x256_S16x256_S16x256_S16x256_S16x256_S16x256_S16x256_S16x256_S16x256_S16x256_S16x256_S256x256_d0

/-- The product of superblock `n` of the activations with superblock `n` of the weights. -/
def part (xs : Fin 16 → Vec F S256x256 .bf16) (ql : Fin 64 → Vec F S32x256 .i8) (qh : Fin 32 → Vec F S32x256 .i8)
    (raw : Fin 16 → Vec F S16x2x256 .bf16) (n : Fin 16) : FVec F S256x256 .f32 :=
  matmul dot_S256x256_S256x256_S256x256_1_0_0_1_n_n none (shapeCast S256x256 (xs n) shapeCasts_S256x256_S256x256)
    (wblock (scaleTable (raw n))
      (field (ql ⟨4 * n.val, by omega⟩) (ql ⟨4 * n.val + 1, by omega⟩) (qh ⟨2 * n.val, by omega⟩))
      (field (ql ⟨4 * n.val + 2, by omega⟩) (ql ⟨4 * n.val + 3, by omega⟩) (qh ⟨2 * n.val + 1, by omega⟩)))
    (constant S256x256 .f32 0x00000000#32)

/-- The sum of sixteen products, added from the first to the last. -/
def sum16 (p : Fin 16 → FVec F S256x256 .f32) : FVec F S256x256 .f32 :=
  addf (addf (addf (addf (addf (addf (addf (addf (addf (addf (addf (addf (addf (addf (addf (p 0) (p 1)) (p 2)) (p 3)) (p 4)) (p 5)) (p 6))
    (p 7)) (p 8)) (p 9)) (p 10)) (p 11)) (p 12)) (p 13)) (p 14)) (p 15)

/-- The output block from the two sums. -/
def gated (g u : FVec F S256x256 .f32) : FVec F S256x256 .bf16 :=
  truncf .bf16 (mulf (mulf g (logistic g)) u) bitsLt_bf16_f32

/-- The pieces stored into a scratch buffer, the last first. -/
def scalePieces (hv : FVec F S16x256 .f32) (sc : Fin 16 → Vec F S1x16x256 .i8) : List (View.Piece (Elt F) S256x2x256 .bf16) :=
  [15, 14, 13, 12, 11, 10, 9, 8, 7, 6, 5, 4, 3, 2, 1, 0].map fun n : Fin 16 =>
    ⟨rectS n, scaleRows hv n (sc n)⟩

end Cert.Proof
-- ==== Proof.Str.lean ====
/- The kernel's body is its structured form. -/
module

public import proofs.«01_k».proof.Proof.Kern

@[expose] public section

set_option maxRecDepth 16384

noncomputable section

namespace Cert.Proof

open Idealize.ShloMosaic Idealize.ShloMosaic.TcCoe Idealize.SL.Sem
open Cert.KernelIdeal Cert.KernelIdeal.Gen

variable {F : FTy → Type} [FloatOps F]

variable (c : Dev nD) (arg1 : Memref sig .tc .vmem S256x4096 .bf16) (harg1 : arg1.IsWhole) (arg2 : Memref sig .tc .vmem S2048x256 .i8) (harg2 : arg2.IsWhole) (arg3 : Memref sig .tc .vmem S1024x256 .i8) (harg3 : arg3.IsWhole) (arg4 : Memref sig .tc .vmem S16x16x256 .i8) (harg4 : arg4.IsWhole) (arg5 : Memref sig .tc .vmem S16x256 .i16) (harg5 : arg5.IsWhole) (arg6 : Memref sig .tc .vmem S2048x256 .i8) (harg6 : arg6.IsWhole) (arg7 : Memref sig .tc .vmem S1024x256 .i8) (harg7 : arg7.IsWhole) (arg8 : Memref sig .tc .vmem S16x16x256 .i8) (harg8 : arg8.IsWhole) (arg9 : Memref sig .tc .vmem S16x256 .i16) (harg9 : arg9.IsWhole) (arg11 : Memref sig .tc .vmem S256x2x256 .bf16) (arg12 : Memref sig .tc .vmem S256x2x256 .bf16)
    (x0 : Vec F S256x4096 .bf16) (x1 : Vec F S2048x256 .i8) (x2 : Vec F S1024x256 .i8) (x3 : Vec F S16x16x256 .i8) (x4 : Vec F S16x256 .i16) (x5 : Vec F S2048x256 .i8) (x6 : Vec F S1024x256 .i8) (x7 : Vec F S16x16x256 .i8) (x8 : Vec F S16x256 .i16)

/-- The scratch buffer of the gate scales holds the pieces in structured form. -/
theorem pieces_gate : kernelRun0_A.sl.HS0_16 c arg4 harg4 arg5 harg5 x3 x4
    = scalePieces (halfVec (View.readAt (Elt F) arg5.view (Rect.unit (s := S16x256) ![0, 0] S16x256.size inb_S16x256_S16x256_0_0).toLoadRect (harg5.unread x4)))
      (fun n => View.readAt (Elt F) arg4.view (rectSc n).toLoadRect (harg4.unread x3)) := rfl

/-- The scratch buffer of the up scales likewise. -/
theorem pieces_up : kernelRun0_A.sl.HS1_16 c arg8 harg8 arg9 harg9 x7 x8
    = scalePieces (halfVec (View.readAt (Elt F) arg9.view (Rect.unit (s := S16x256) ![0, 0] S16x256.size inb_S16x256_S16x256_0_0).toLoadRect (harg9.unread x8)))
      (fun n => View.readAt (Elt F) arg8.view (rectSc n).toLoadRect (harg8.unread x7)) := rfl

set_option maxHeartbeats 8000000 in
/-- What the body stores is the structured form of its loads. -/
theorem body_eq : kernelRun0_A.sl.r_871 c arg1 harg1 arg2 harg2 arg3 harg3 arg4 harg4 arg5 harg5 arg6 harg6 arg7 harg7 arg8 harg8 arg9 harg9 arg11 arg12 x0 x1 x2 x3 x4 x5 x6 x7 x8
    = gated
      (sum16 (part (fun n => View.readAt (Elt F) arg1.view (rectX n).toLoadRect (harg1.unread x0))
        (fun n => View.readAt (Elt F) arg2.view (rectQl n).toLoadRect (harg2.unread x1))
        (fun n => View.readAt (Elt F) arg3.view (rectQh n).toLoadRect (harg3.unread x2))
        (fun n => arg11.view.readCov (kernelRun0_A.sl.HS0_16 c arg4 harg4 arg5 harg5 x3 x4) (rectS n).toLoadRect)))
      (sum16 (part (fun n => View.readAt (Elt F) arg1.view (rectX n).toLoadRect (harg1.unread x0))
        (fun n => View.readAt (Elt F) arg6.view (rectQl n).toLoadRect (harg6.unread x5))
        (fun n => View.readAt (Elt F) arg7.view (rectQh n).toLoadRect (harg7.unread x6))
        (fun n => arg12.view.readCov (kernelRun0_A.sl.HS1_16 c arg8 harg8 arg9 harg9 x7 x8) (rectS n).toLoadRect))) := rfl

end Cert.Proof
-- ==== Proof.Half.lean ====
/- Half-precision numbers: the kernel's decoding of 16 bits and the reference's give the same extended real. -/
module

public import Idealize.ShloMosaic.PureOps.Ideal.Laws
public import Idealize.ShloMosaic.Lib.BitcastFour

@[expose] public section

noncomputable section

namespace Cert.Proof

open Idealize.ShloMosaic

/-- A half-precision pattern without its sign bit. -/
theorem word_low (b : BitVec 16) : b.signExtend 32 &&& 32767#32 = (b.extractLsb' 0 15).setWidth 32 := by
  apply BitVec.eq_of_getLsbD_eq
  intro i hi
  interval_cases i <;> simp [BitVec.getElem_signExtend]

/-- Its exponent field, in place. -/
theorem word_exp (b : BitVec 16) : b.signExtend 32 &&& 31744#32 = (b.extractLsb' 10 5).setWidth 32 <<< 10 := by
  apply BitVec.eq_of_getLsbD_eq
  intro i hi
  interval_cases i <;> simp [BitVec.getElem_signExtend]

/-- Its sign bit, in place. -/
theorem word_sign (b : BitVec 16) : b.signExtend 32 &&& 32768#32 = (b.extractLsb' 15 1).setWidth 32 <<< 15 := by
  apply BitVec.eq_of_getLsbD_eq
  intro i hi
  interval_cases i <;> simp [BitVec.getElem_signExtend]

/-- Its mantissa field. -/
theorem word_mant (b : BitVec 16) : b.signExtend 32 &&& 1023#32 = (b.extractLsb' 0 10).setWidth 32 := by
  apply BitVec.eq_of_getLsbD_eq
  intro i hi
  interval_cases i <;> simp [BitVec.getElem_signExtend]

/-- Its exponent field, moved to the bottom. -/
theorem word_exp' (b : BitVec 16) : (b.signExtend 32).sshiftRight 10 &&& 31#32 = (b.extractLsb' 10 5).setWidth 32 := by
  apply BitVec.eq_of_getLsbD_eq
  intro i hi
  interval_cases i <;> simp [BitVec.getElem_sshiftRight, BitVec.getElem_signExtend]

/-- A 32-bit pattern with sign bit 0, exponent field `X` strictly between 0 and 255 and mantissa field `T`, as a number. -/
theorem ofBits_normal (W : BitVec 32) (X T : Nat) (hW : W.toNat = X * 2 ^ 23 + T) (h0 : 0 < X) (h1 : X < 255) (hT : T < 2 ^ 23) :
    Ideal.ofBits .f32 W = (((2 ^ 23 + T : Nat) * (2 : ℝ) ^ ((X : Int) - 150) : ℝ) : EReal) := by
  have hn : W.extractLsb' 31 1 = 0#1 := by
    apply BitVec.eq_of_toNat_eq
    simp only [BitVec.extractLsb'_toNat, Nat.shiftRight_eq_div_pow, BitVec.toNat_ofNat]
    omega
  have hx : (W.extractLsb' 23 8).toNat = X := by
    simp only [BitVec.extractLsb'_toNat, Nat.shiftRight_eq_div_pow]
    omega
  have hf : (W.extractLsb' 0 23).toNat = T := by
    simp only [BitVec.extractLsb'_toNat, Nat.shiftRight_eq_div_pow]
    omega
  unfold Ideal.ofBits Ideal.ieee
  simp only [hn, hx, hf]
  rw [if_neg (by omega), if_neg (by omega)]
  congr 1
  have : ((X : Int) - (2 ^ (8 - 1) - 1) - (23 : Nat) : Int) = (X : Int) - 150 := by norm_num; ring
  rw [this]
  simp

/-- The same at exponent field 255: an infinity at mantissa field 0, and the bottom element otherwise. -/
theorem ofBits_special (W : BitVec 32) (T : Nat) (hW : W.toNat = 255 * 2 ^ 23 + T) (hT : T < 2 ^ 23) :
    Ideal.ofBits .f32 W = if T = 0 then ⊤ else ⊥ := by
  have hn : W.extractLsb' 31 1 = 0#1 := by
    apply BitVec.eq_of_toNat_eq
    simp only [BitVec.extractLsb'_toNat, Nat.shiftRight_eq_div_pow, BitVec.toNat_ofNat]
    omega
  have hx : (W.extractLsb' 23 8).toNat = 255 := by
    simp only [BitVec.extractLsb'_toNat, Nat.shiftRight_eq_div_pow]
    omega
  have hf : (W.extractLsb' 0 23).toNat = T := by
    simp only [BitVec.extractLsb'_toNat, Nat.shiftRight_eq_div_pow]
    omega
  unfold Ideal.ofBits Ideal.ieee
  simp only [hn, hx, hf]
  rw [if_pos (by norm_num)]
  simp

/-- The half-precision number that 16 bits stand for, as the kernel decodes it. -/
def kHalf (b : BitVec 16) : Ideal .f32 :=
  let w := b.signExtend 32
  let mag := IntOp.shli .vector (IntOp.andi w 32767#32) 13#32
  let exp := IntOp.andi w 31744#32
  let bias := Scalar.select (IntOp.cmpi .eq exp 31744#32) 1879048192#32 939524096#32
  let normal : Ideal .f32 := FloatOps.ofBits .f32 (IntOp.addi mag bias)
  let sub : Ideal .f32 := FloatOps.subf (FloatOps.ofBits .f32 (IntOp.addi mag 947912704#32)) (FloatOps.ofBits .f32 0x38800000#32)
  let value := Scalar.select (IntOp.cmpi .eq exp 0#32) sub normal
  Scalar.select (IntOp.cmpi .eq (IntOp.andi w 32768#32) 0#32) value (FloatOps.subf (FloatOps.ofBits .f32 0x00000000#32) value)

/-- The half-precision number that 16 bits stand for, as the reference spells it. -/
def rHalf (b : BitVec 16) : Ideal .f32 :=
  let w := b.signExtend 32
  let mant := IntOp.andi w 1023#32
  let e := IntOp.andi (IntOp.shrsi .host w 10#32) 31#32
  let normal : Ideal .f32 := FloatOps.mulf (FloatOps.mulf (FloatOps.sitofp .f32 (IntOp.addi mant 1024#32))
    (FloatOps.sitofp .f32 (IntOp.shli .host 1#32 e))) (FloatOps.ofBits .f32 0x33000000#32)
  let sub : Ideal .f32 := FloatOps.mulf (FloatOps.sitofp .f32 mant) (FloatOps.ofBits .f32 0x33800000#32)
  let special : Ideal .f32 := Scalar.select (IntOp.cmpi .eq mant 0#32) (FloatOps.ofBits .f32 0x7F800000#32) (FloatOps.ofBits .f32 0x7FC00000#32)
  let value := Scalar.select (IntOp.cmpi .eq e 0#32) sub (Scalar.select (IntOp.cmpi .eq e 31#32) special normal)
  Scalar.select (IntOp.cmpi .slt w 0#32) (FloatOps.hostNegf value) value

/-- The two decodings agree at every pattern: both are the IEEE half-precision value, an infinity at exponent field 31 with
    mantissa 0, and the same end of the extended reals at the other patterns with exponent field 31. -/
theorem kHalf_eq_rHalf (b : BitVec 16) : kHalf b = rHalf b := by
  have hb := b.isLt
  obtain ⟨M, hM⟩ : ∃ M, M = b.toNat % 1024 := ⟨_, rfl⟩
  obtain ⟨E, hE⟩ : ∃ E, E = b.toNat / 1024 % 32 := ⟨_, rfl⟩
  have hM' : M < 1024 := by omega
  have hE' : E < 32 := by omega
  have nLow : (b.signExtend 32 &&& 32767#32).toNat = E * 1024 + M := by
    rw [word_low]
    simp only [BitVec.toNat_setWidth, BitVec.extractLsb'_toNat, Nat.shiftRight_eq_div_pow]
    omega
  have nMag : ((b.signExtend 32 &&& 32767#32) <<< 13).toNat = E * 2 ^ 23 + M * 8192 := by
    rw [BitVec.toNat_shiftLeft, nLow, Nat.shiftLeft_eq]; omega
  have nExp : b.signExtend 32 &&& 31744#32 = BitVec.ofNat 32 (E * 1024) := by
    apply BitVec.eq_of_toNat_eq
    rw [word_exp]
    simp only [BitVec.toNat_shiftLeft, BitVec.toNat_setWidth, BitVec.extractLsb'_toNat, Nat.shiftRight_eq_div_pow, Nat.shiftLeft_eq, BitVec.toNat_ofNat]
    omega
  have nMant : b.signExtend 32 &&& 1023#32 = BitVec.ofNat 32 M := by
    apply BitVec.eq_of_toNat_eq
    rw [word_mant]
    simp only [BitVec.toNat_setWidth, BitVec.extractLsb'_toNat, Nat.shiftRight_eq_div_pow, BitVec.toNat_ofNat]
    omega
  have nE : (b.signExtend 32).sshiftRight 10 &&& 31#32 = BitVec.ofNat 32 E := by
    apply BitVec.eq_of_toNat_eq
    rw [word_exp']
    simp only [BitVec.toNat_setWidth, BitVec.extractLsb'_toNat, Nat.shiftRight_eq_div_pow, BitVec.toNat_ofNat]
    omega
  have sel {α : Type} (p : Bool) (x y : α) : Scalar.select (BitVec.ofBool p) x y = if p then x else y := by
    cases p <;> rfl
  have c31 : (BitVec.ofNat 32 (E * 1024) == 31744#32) = decide (E = 31) := by
    rw [Bool.eq_iff_iff, beq_iff_eq, decide_eq_true_iff, ← BitVec.toNat_inj]
    simp only [BitVec.toNat_ofNat]; omega
  have c0 : (BitVec.ofNat 32 (E * 1024) == 0#32) = decide (E = 0) := by
    rw [Bool.eq_iff_iff, beq_iff_eq, decide_eq_true_iff, ← BitVec.toNat_inj]
    simp only [BitVec.toNat_ofNat]; omega
  have d31 : (BitVec.ofNat 32 E == 31#32) = decide (E = 31) := by
    rw [Bool.eq_iff_iff, beq_iff_eq, decide_eq_true_iff, ← BitVec.toNat_inj]
    simp only [BitVec.toNat_ofNat]; omega
  have d0 : (BitVec.ofNat 32 E == 0#32) = decide (E = 0) := by
    rw [Bool.eq_iff_iff, beq_iff_eq, decide_eq_true_iff, ← BitVec.toNat_inj]
    simp only [BitVec.toNat_ofNat]; omega
  have dM : (BitVec.ofNat 32 M == 0#32) = decide (M = 0) := by
    rw [Bool.eq_iff_iff, beq_iff_eq, decide_eq_true_iff, ← BitVec.toNat_inj]
    simp only [BitVec.toNat_ofNat]; omega
  have cS : (b.signExtend 32 &&& 32768#32 == 0#32) = decide (b.toNat < 32768) := by
    rw [word_sign, Bool.eq_iff_iff, beq_iff_eq, decide_eq_true_iff, ← BitVec.toNat_inj]
    simp only [BitVec.toNat_shiftLeft, BitVec.toNat_setWidth, BitVec.extractLsb'_toNat, Nat.shiftRight_eq_div_pow, Nat.shiftLeft_eq, BitVec.toNat_ofNat]
    omega
  have dS : (b.signExtend 32).slt 0#32 = !decide (b.toNat < 32768) := by
    rw [Bool.eq_iff_iff, BitVec.slt_iff_toInt_lt, BitVec.toInt_signExtend_of_le (by norm_num), BitVec.toInt_eq_toNat_cond]
    simp; omega
  have sh : IntOp.shli .host 1#32 (BitVec.ofNat 32 E) = BitVec.ofNat 32 (2 ^ E) := by
    interval_cases E <;> rfl
  have val : (if E = 0 then (FloatOps.subf (FloatOps.ofBits .f32 ((b.signExtend 32 &&& 32767#32) <<< 13 + 947912704#32))
        (FloatOps.ofBits .f32 0x38800000#32) : Ideal .f32)
      else FloatOps.ofBits .f32 ((b.signExtend 32 &&& 32767#32) <<< 13 + if E = 31 then 1879048192#32 else 939524096#32))
      = if E = 0 then FloatOps.mulf (FloatOps.sitofp .f32 (BitVec.ofNat 32 M)) (FloatOps.ofBits .f32 0x33800000#32)
        else if E = 31 then (if M = 0 then FloatOps.ofBits .f32 0x7F800000#32 else FloatOps.ofBits .f32 0x7FC00000#32)
        else FloatOps.mulf (FloatOps.mulf (FloatOps.sitofp .f32 (BitVec.ofNat 32 M + 1024#32))
          (FloatOps.sitofp .f32 (BitVec.ofNat 32 (2 ^ E)))) (FloatOps.ofBits .f32 0x33000000#32) := by
    have iM : (BitVec.ofNat 32 M).toInt = M := by
      rw [BitVec.toInt_eq_toNat_cond, BitVec.toNat_ofNat]; omega
    have iM' : (BitVec.ofNat 32 M + 1024#32).toInt = M + 1024 := by
      rw [BitVec.toInt_eq_toNat_cond, BitVec.toNat_add, BitVec.toNat_ofNat, BitVec.toNat_ofNat]; omega
    show (if E = 0 then Ideal.ofBits .f32 ((b.signExtend 32 &&& 32767#32) <<< 13 + 947912704#32)
        - Ideal.ofBits .f32 0x38800000#32
      else Ideal.ofBits .f32 ((b.signExtend 32 &&& 32767#32) <<< 13 + if E = 31 then 1879048192#32 else 939524096#32))
      = if E = 0 then (((BitVec.ofNat 32 M).toInt : ℝ) : EReal) * Ideal.ofBits .f32 0x33800000#32
        else if E = 31 then (if M = 0 then Ideal.ofBits .f32 0x7F800000#32 else Ideal.ofBits .f32 0x7FC00000#32)
        else (((BitVec.ofNat 32 M + 1024#32).toInt : ℝ) : EReal) *
          (((BitVec.ofNat 32 (2 ^ E)).toInt : ℝ) : EReal) * Ideal.ofBits .f32 0x33000000#32
    by_cases h0 : E = 0
    · rw [if_pos h0, if_pos h0, ofBits_normal _ 113 (M * 8192) (by rw [BitVec.toNat_add, nMag, BitVec.toNat_ofNat]; omega) (by omega) (by omega) (by omega),
        ofBits_normal 0x38800000#32 113 0 (by decide) (by omega) (by omega) (by omega),
        ofBits_normal 0x33800000#32 103 0 (by decide) (by omega) (by omega) (by omega), iM,
        ← EReal.coe_sub, ← EReal.coe_mul]
      congr 1
      push_cast
      norm_num
      ring
    · rw [if_neg h0, if_neg h0]
      by_cases h1 : E = 31
      · rw [if_pos h1, if_pos h1, ofBits_special _ (M * 8192) (by rw [BitVec.toNat_add, nMag, BitVec.toNat_ofNat]; omega) (by omega),
          ofBits_special 0x7F800000#32 0 (by decide) (by omega), ofBits_special 0x7FC00000#32 (2 ^ 22) (by decide) (by omega)]
        by_cases hm : M = 0 <;> simp [hm]
      · rw [if_neg h1, if_neg h1]
        have i2 : (BitVec.ofNat 32 (2 ^ E)).toInt = 2 ^ E := by
          have : E ≤ 30 := by omega
          interval_cases E <;> rfl
        rw [ofBits_normal _ (E + 112) (M * 8192) (by rw [BitVec.toNat_add, nMag, BitVec.toNat_ofNat]; omega) (by omega) (by omega) (by omega),
          ofBits_normal 0x33000000#32 102 0 (by decide) (by omega) (by omega) (by omega), iM', i2,
          ← EReal.coe_mul, ← EReal.coe_mul]
        congr 1
        have e1 : (((E + 112 : Nat) : Int) - 150) = (E : Int) + (-38) := by push_cast; ring
        rw [e1, zpow_add₀ (by norm_num : (2 : ℝ) ≠ 0), zpow_natCast]
        push_cast
        norm_num
        ring
  have z : (FloatOps.ofBits .f32 0x00000000#32 : Ideal .f32) = (0 : EReal) := Ideal.ofBits_zero_f32
  have shl13 (x : BitVec 32) : IntOp.shli .vector x 13#32 = x <<< 13 := rfl
  have shr10 (x : BitVec 32) : IntOp.shrsi .host x 10#32 = x.sshiftRight 10 := rfl
  unfold kHalf rHalf
  simp only [shl13, shr10, IntOp.andi, IntOp.addi, IntOp.cmpi, sel, nExp, nMant, nE, c31, c0, d31, d0, dM, cS, dS, sh,
    decide_eq_true_eq, Bool.not_eq_true', decide_eq_false_iff_not, ite_not]
  rw [val]
  split
  · rfl
  · rw [z]; exact zero_sub _
end Cert.Proof
-- ==== Proof.Byte.lean ====
/- The bytes of the kernel's words: each byte is four times a six-bit code less 128, as a signed number. -/
module

public import Idealize.ShloMosaic.PureOps.Ideal.Laws
public import Idealize.ShloMosaic.Lib.BitcastFour
public import Idealize.ShloMosaic.Lib.Pointwise

@[expose] public section

noncomputable section

namespace Cert.Proof

open Idealize.ShloMosaic

/-- The low four bits of a code: field 0 and 2 lie in `lo`, field 1 and 3 in `hi`; the later two in the high half of the byte. -/
def nib (f : Fin 4) (lo hi : BitVec 8) : BitVec 4 :=
  match f with
  | 0 => lo.extractLsb' 0 4
  | 1 => hi.extractLsb' 0 4
  | 2 => lo.extractLsb' 4 4
  | 3 => hi.extractLsb' 4 4

/-- The high two bits of a code. -/
def two (f : Fin 4) (q : BitVec 8) : BitVec 2 := q.extractLsb' (2 * f.val) 2

/-- The code of field `f` as the reference spells it. -/
def code (f : Fin 4) (lo hi q : BitVec 8) : BitVec 32 :=
  match f with
  | 0 => IntOp.ori (IntOp.andi (lo.setWidth 32) 15#32) (IntOp.shli .host (IntOp.andi (q.setWidth 32) 3#32) 4#32)
  | 1 => IntOp.ori (IntOp.andi (hi.setWidth 32) 15#32) (IntOp.shli .host (IntOp.andi (IntOp.shrsi .host (q.setWidth 32) 2#32) 3#32) 4#32)
  | 2 => IntOp.ori (IntOp.shrsi .host (lo.setWidth 32) 4#32) (IntOp.shli .host (IntOp.andi (IntOp.shrsi .host (q.setWidth 32) 4#32) 3#32) 4#32)
  | 3 => IntOp.ori (IntOp.shrsi .host (hi.setWidth 32) 4#32) (IntOp.shli .host (IntOp.andi (IntOp.shrsi .host (q.setWidth 32) 6#32) 3#32) 4#32)

/-- The word of four fields as the kernel computes it from the words of bits. -/
def fieldWord (f : Fin 4) (l h q' : BitVec 32) : BitVec 32 :=
  let q := IntOp.xori q' 2863311530#32
  match f with
  | 0 => IntOp.ori (IntOp.andi (IntOp.shli .vector q 6#32) 3233857728#32) (IntOp.andi (IntOp.shli .vector l 2#32) 1010580540#32)
  | 1 => IntOp.ori (IntOp.andi (IntOp.shli .vector q 4#32) 3233857728#32) (IntOp.andi (IntOp.shli .vector h 2#32) 1010580540#32)
  | 2 => IntOp.ori (IntOp.andi (IntOp.shli .vector q 2#32) 3233857728#32) (IntOp.andi (IntOp.shrsi .vector l 2#32) 1010580540#32)
  | 3 => IntOp.ori (IntOp.andi q 3233857728#32) (IntOp.andi (IntOp.shrsi .vector h 2#32) 1010580540#32)

/-- The reference's code is its six bits. -/
theorem code_eq (f : Fin 4) (lo hi q : BitVec 8) :
    code f lo hi q = (nib f lo hi).setWidth 32 ||| (two f q).setWidth 32 <<< 4 := by
  have s2 (x : BitVec 32) : IntOp.shrsi .host x 2#32 = x.sshiftRight 2 := rfl
  have s4 (x : BitVec 32) : IntOp.shrsi .host x 4#32 = x.sshiftRight 4 := rfl
  have s6 (x : BitVec 32) : IntOp.shrsi .host x 6#32 = x.sshiftRight 6 := rfl
  have l4 (x : BitVec 32) : IntOp.shli .host x 4#32 = x <<< 4 := rfl
  have hm (x : BitVec 8) : (x.setWidth 32).msb = false := by simp [BitVec.msb_eq_getLsbD_last]
  apply BitVec.eq_of_getLsbD_eq
  intro i hi
  fin_cases f <;> interval_cases i <;>
    simp [code, nib, two, s2, s4, s6, l4, hm, IntOp.ori, IntOp.andi, BitVec.getElem_sshiftRight]

/-- One byte of the kernel's word: the six bits of the code above two zero bits, with the top bit turned over. -/
theorem fieldWord_byte (f : Fin 4) (l h q : BitVec 32) (b : Nat) (hb : b < 4) :
    (fieldWord f l h q).extractLsb' (8 * b) 8
      = ((two f (q.extractLsb' (8 * b) 8)).setWidth 8 <<< 6 ^^^ 128#8)
        ||| (nib f (l.extractLsb' (8 * b) 8) (h.extractLsb' (8 * b) 8)).setWidth 8 <<< 2 := by
  have s2 (x : BitVec 32) : IntOp.shrsi .vector x 2#32 = x.sshiftRight 2 := rfl
  have l2 (x : BitVec 32) : IntOp.shli .vector x 2#32 = x <<< 2 := rfl
  have l4 (x : BitVec 32) : IntOp.shli .vector x 4#32 = x <<< 4 := rfl
  have l6 (x : BitVec 32) : IntOp.shli .vector x 6#32 = x <<< 6 := rfl
  apply BitVec.eq_of_getLsbD_eq
  intro i hi
  fin_cases f <;> interval_cases b <;> interval_cases i <;>
    simp [fieldWord, nib, two, s2, l2, l4, l6, IntOp.ori, IntOp.andi, IntOp.xori, BitVec.getElem_sshiftRight]

/-- Six bits above two zero bits with the top bit turned over, as a signed byte, are four times the six bits less 128. -/
theorem byte_toInt (t : BitVec 2) (n : BitVec 4) :
    ((t.setWidth 8 <<< 6 ^^^ 128#8) ||| n.setWidth 8 <<< 2).toInt
      = 4 * (n.setWidth 32 ||| t.setWidth 32 <<< 4).toInt - 128 := by
  revert t n; decide

/-- A word vector read as bytes. -/
theorem bitcast_word_byte (w : (⟨2, ![8, 256]⟩ : Shape).Idx → BitVec 32) (h : (⟨2, ![8, 256]⟩ : Shape).Bitcasts 32 ⟨2, ![32, 256]⟩ 8)
    (r : Fin 32) (col : Fin 256) :
    bitcast ⟨2, ![32, 256]⟩ 8 w h (ix2 r col)
      = (w (ix2 ⟨r.val / 4, by omega⟩ col)).extractLsb' (8 * (r.val % 4)) 8 := by
  rw [ix2_eq_valueIdx, ix2_eq_valueIdx]
  apply BitVec.eq_of_getLsbD_eq
  intro q hq
  have hrow : (⟨2, ![32, 256]⟩ : Shape).row (ValueIdx.ix2 r col) = r.val := by
    rfl
  rw [bitcast_getLsbD w h _ q hq (by norm_num)]
  rw [BitVec.getLsbD_extractLsb']
  simp only [hq, decide_true, Bool.true_and]
  have e1 : (((⟨2, ![32, 256]⟩ : Shape).row (ValueIdx.ix2 r col)) * 8 + q) % 32 = 8 * (r.val % 4) + q := by rw [hrow]; omega
  have e2 : (((⟨2, ![32, 256]⟩ : Shape).row (ValueIdx.ix2 r col)) * 8 + q) / 32 = r.val / 4 := by rw [hrow]; omega
  rw [e1]
  congr 2
  funext c
  match c with
  | ⟨0, _⟩ => exact Fin.ext ((h.srcIdx_row _ _ _ ⟨0, Nat.zero_lt_two⟩ rfl).trans e2)
  | ⟨1, _⟩ => exact Fin.ext (h.srcIdx_other _ _ _ ⟨1, Nat.one_lt_two⟩ (by show ¬ 1 + 2 = 2; omega))

/-- A byte of a byte vector read as words. -/
theorem bitcast_byte_word (x : (⟨2, ![32, 256]⟩ : Shape).Idx → BitVec 8) (h : (⟨2, ![32, 256]⟩ : Shape).Bitcasts 8 ⟨2, ![8, 256]⟩ 32)
    (r : Fin 32) (col : Fin 256) :
    (bitcast ⟨2, ![8, 256]⟩ 32 x h (ix2 ⟨r.val / 4, by omega⟩ col)).extractLsb' (8 * (r.val % 4)) 8 = x (ix2 r col) := by
  rw [ix2_eq_valueIdx, ix2_eq_valueIdx]
  apply BitVec.eq_of_getLsbD_eq
  intro q hq
  rw [BitVec.getLsbD_extractLsb']
  simp only [hq, decide_true, Bool.true_and]
  rw [bitcast_8_32_getLsbD_ix2 x h ⟨r.val / 4, by omega⟩ col _ (by omega) r (by show r.val = 4 * (r.val / 4) + _; omega)]
  congr 1
  omega

end Cert.Proof
-- ==== Proof.KernRead.lean ====
/- The kernel's body over the extended reals at an index: each of its two products is a sum over superblocks, halves, fields and rows
   of an activation times a decoded weight. -/
module

public import proofs.«01_k».proof.Proof.Kern
public import proofs.«01_k».proof.Proof.Half
public import proofs.«01_k».proof.Proof.Byte
public import Idealize.ShloMosaic.Lib.MatmulPlain
public import Idealize.ShloMosaic.Lib.Pointwise

@[expose] public section

set_option maxRecDepth 16384

noncomputable section

namespace Cert.Proof

open Idealize.ShloMosaic
open Idealize.ShloMosaic.TcCoe Idealize.SL.Sem
open Cert.KernelIdeal Cert.KernelIdeal.Gen

section
variable {F : FTy → Type} [FloatOps F]

/-- The number one bit pattern is decoded to. -/
def halfOne (b : BitVec 16) : F .f32 :=
  let w := b.signExtend 32
  let mag := IntOp.shli .vector (IntOp.andi w 32767#32) 13#32
  let exp := IntOp.andi w 31744#32
  let bias := Scalar.select (IntOp.cmpi .eq exp 31744#32) 1879048192#32 939524096#32
  let normal : F .f32 := FloatOps.ofBits .f32 (IntOp.addi mag bias)
  let sub : F .f32 := FloatOps.subf (FloatOps.ofBits .f32 (IntOp.addi mag 947912704#32)) (FloatOps.ofBits .f32 0x38800000#32)
  let value := Scalar.select (IntOp.cmpi .eq exp 0#32) sub normal
  Scalar.select (IntOp.cmpi .eq (IntOp.andi w 32768#32) 0#32) value (FloatOps.subf (FloatOps.ofBits .f32 0x00000000#32) value)

/-- The kernel's decoding at an index, over any floats. -/
theorem halfVec_apply' (d : Vec F S16x256 .i16) (i : S16x256.Idx) : halfVec d i = halfOne (d i) := by
  unfold halfVec
  rw [shapeCast_self]
  rfl
end

/-- A block of decoded half-precision numbers at an index. -/
theorem halfVec_apply (d : Vec Ideal S16x256 .i16) (i : S16x256.Idx) : halfVec d i = kHalf (d i) :=
  (halfVec_apply' d i).trans rfl

/-- One scale as the kernel computes it: the scale byte times a quarter of the superblock's half-precision number. -/
def kScale (s : BitVec 8) (d : Ideal .f32) : EReal :=
  (FloatOps.sitofp .f32 s : Ideal .f32) * (d * (FloatOps.ofBits .f32 0x3E800000#32 : Ideal .f32))

/-- What is stored for superblock `n` at an index. -/
theorem scaleRows_apply (hv : FVec Ideal S16x256 .f32) (n : Fin 16) (sc : Vec Ideal S1x16x256 .i8) (a : Fin 16) (p : Fin 2) (col : Fin 256) :
    scaleRows hv n sc (ix3 a p col) = kScale (sc (ix3 0 a col)) (hv (ix2 n col)) := by
  unfold scaleRows kScale
  fin_cases p
  · pointwise
  · pointwise

/-- Row `2 k` of the table is scale `k`. -/
theorem scaleTable_apply (raw : Vec Ideal S16x2x256 .bf16) (k : Fin 16) (col : Fin 256) :
    scaleTable raw (ix2 ⟨2 * k.val, by omega⟩ col) = raw (ix3 k 0 col) := by
  unfold scaleTable
  pointwise
  rw [if_pos (by omega)]
  congr 2
  exact Fin.ext (by show 2 * k.val / 2 = k.val; omega)

/-- The scratch buffer's contents. -/
def scaleAt (hv : FVec Ideal S16x256 .f32) (sc : Fin 16 → Vec Ideal S1x16x256 .i8) (y : S256x2x256.Idx) : Ideal .bf16 :=
  kScale (sc ⟨(y 0).val / 16, by have : (y 0).val < 256 := (y 0).isLt; omega⟩ (ix3 0 ⟨(y 0).val % 16, by omega⟩ (y 2)))
    (hv (ix2 ⟨(y 0).val / 16, by have : (y 0).val < 256 := (y 0).isLt; omega⟩ (y 2)))

/-- The rows of every superblock are among the pieces stored. -/
theorem mem_scalePieces (hv : FVec Ideal S16x256 .f32) (sc : Fin 16 → Vec Ideal S1x16x256 .i8) (n : Fin 16) :
    (⟨rectS n, scaleRows hv n (sc n)⟩ : View.Piece (Elt Ideal) S256x2x256 .bf16) ∈ scalePieces hv sc := by
  unfold scalePieces
  exact List.mem_map_of_mem (f := fun n : Fin 16 => (⟨rectS n, scaleRows hv n (sc n)⟩ : View.Piece (Elt Ideal) S256x2x256 .bf16))
    (by revert n; decide)

/-- What is stored for a superblock agrees with the buffer's contents there. -/
theorem scaleRow_at (hv : FVec Ideal S16x256 .f32) (sc : Fin 16 → Vec Ideal S1x16x256 .i8) (n : Fin 16) (x : S16x2x256.Idx) :
    scaleRows hv n (sc n) x = scaleAt hv sc ((rectS n).emb x) := by
  obtain ⟨a, p, col, rfl⟩ : ∃ (a : Fin 16) (p : Fin 2) (col : Fin 256), x = ix3 a p col := ⟨x 0, x 1, x 2, eq_ix3 x⟩
  rw [scaleRows_apply]
  unfold scaleAt
  have e0 : (((rectS n).emb (ix3 a p col)) 0).val = 16 * n.val + a.val := by
    show 16 * n.val + 1 * a.val = _; omega
  have e2 : ((rectS n).emb (ix3 a p col)) 2 = col := Fin.ext (by show 0 + 1 * col.val = _; omega)
  have hn : (⟨(((rectS n).emb (ix3 a p col)) 0).val / 16, by rw [e0]; omega⟩ : Fin 16) = n := Fin.ext (by show _ / 16 = _; rw [e0]; omega)
  have ha : (⟨(((rectS n).emb (ix3 a p col)) 0).val % 16, by omega⟩ : Fin 16) = a := Fin.ext (by show _ % 16 = _; rw [e0]; omega)
  rw [hn, ha, e2]

/-- An index of a rectangle lies in the rectangle. -/
theorem mem_emb {s : Shape} (r : Rect s) (x : r.shape.Idx) : r.emb x ∈ r.set := by
  rw [← Rect.map_emb_univ]; exact Finset.mem_map_of_mem _ (Finset.mem_univ x)

/-- A load of superblock `n`'s rows of the scratch buffer reads what was stored there. -/
theorem scratch_apply (arg : Memref sig .tc .vmem S256x2x256 .bf16) (hv : FVec Ideal S16x256 .f32) (sc : Fin 16 → Vec Ideal S1x16x256 .i8) (n k : Fin 16) (col : Fin 256) :
    scaleTable (arg.view.readCov (scalePieces hv sc) (rectS n).toLoadRect) (ix2 ⟨2 * k.val, by omega⟩ col)
      = kScale (sc n (ix3 0 k col)) (hv (ix2 n col)) := by
  rw [scaleTable_apply]
  rw [View.readCov_eq_canon _ _ _ (fun j => ⟨_, mem_scalePieces hv sc n, mem_emb _ j⟩)]
  have := View.canon_apply_of_pieces (scaleAt hv sc) (scalePieces hv sc) (by
    intro p hp x
    unfold scalePieces at hp
    obtain ⟨n', _, rfl⟩ := List.mem_map.1 hp
    exact scaleRow_at hv sc n' x) ((rectS n).emb (ix3 k 0 col)) ⟨_, mem_scalePieces hv sc n, mem_emb _ _⟩
  refine this.trans ?_
  rw [← scaleRow_at, scaleRows_apply]

/-- A row of sixteen rows of weights: the signed byte of the code times the scale. -/
theorem piece_apply (s : FVec Ideal S32x256 .bf16) (w : IVec S8x256 32) (j : Fin 2) (k : Fin 16) (a : Fin 16) (col : Fin 256) :
    piece s w j k (ix2 a col)
      = (FloatOps.sitofp .bf16 (bitcast S32x256 8 w bitcasts_S8x256_w32_S32x256_w8 (ix2 ⟨16 * j.val + a.val, by omega⟩ col)) : Ideal .bf16)
        * s (ix2 ⟨2 * k.val, by omega⟩ col) := by
  unfold piece
  pointwise

/-- A concatenation of blocks of sixteen rows, read at row `16 k + a`, is block `k` at row `a`. -/
theorem slabs_at {α : Type} (j : S256x256.Idx) (L : List (S16x256.Idx → α)) : ∀ (hs : ∀ s' ∈ (L.map fun x => (⟨S16x256, x⟩ : (s : Shape) × (s.Idx → α))).map (·.1), s'.FitsOff S256x256 0)
    (c : Nat) (hc : c < (axisSizes S256x256 0 (L.map fun x => (⟨S16x256, x⟩ : (s : Shape) × (s.Idx → α)))).sum) (k a : Nat) (hk : k < L.length) (ha : a < 16)
    (_ : c = 16 * k + a),
    concatenateAt S256x256 0 j (L.map fun x => (⟨S16x256, x⟩ : (s : Shape) × (s.Idx → α))) hs c hc = L[k] (ix2 ⟨a, ha⟩ (j 1)) := by
  induction L with
  | nil => intro _ _ _ k a hk; exact absurd hk (by simp)
  | cons x L ih =>
    intro hs c hc k a hk ha e
    have here (h : c < 16) : ∀ hh : ∀ b : Fin 2, (if b.val = (0 : Fin 2).val then c else (j (b.cast (show (2 : Nat) = 2 from rfl))).val) < S16x256.size b, x (Shape.Idx.norm fun b => ⟨if b.val = (0 : Fin 2).val then c else (j (b.cast (show (2 : Nat) = 2 from rfl))).val, hh b⟩) = x (ix2 ⟨c, h⟩ (j 1)) := by
      intro hh
      congr 1
      funext b
      match b with
      | ⟨0, _⟩ => rfl
      | ⟨1, _⟩ => rfl
    cases L with
    | nil =>
      have hk0 : k = 0 := by simpa using hk
      subst hk0
      have : c = a := by omega
      subst this
      refine (concatenateAt_singleton 0 j x hs c hc).trans ?_
      exact here ha _
    | cons x' L =>
      refine (concatenateAt_cons 0 j x ⟨S16x256, x'⟩ (L.map fun x => (⟨S16x256, x⟩ : (s : Shape) × (s.Idx → α))) hs c hc).trans ?_
      by_cases h : c < 16
      · have hk0 : k = 0 := by omega
        subst hk0
        have : c = a := by omega
        subst this
        refine (dif_pos (show c < S16x256.size (0 : Fin 2) from h)).trans ?_
        exact here ha _
      · refine (dif_neg (show ¬ c < S16x256.size (0 : Fin 2) from h)).trans ?_
        obtain ⟨k', rfl⟩ : ∃ k', k = k' + 1 := ⟨k - 1, by omega⟩
        exact ih _ (c - 16) _ k' a (by simpa using hk) ha (by omega)

/-- The pieces of one block of weights, the first first. -/
def pieces (s : FVec Ideal S32x256 .bf16) (w0 w1 : Fin 4 → IVec S8x256 32) : List (FVec Ideal S16x256 .bf16) :=
  [piece s (w0 0) 0 0, piece s (w0 0) 1 1, piece s (w0 1) 0 2, piece s (w0 1) 1 3, piece s (w0 2) 0 4, piece s (w0 2) 1 5,
   piece s (w0 3) 0 6, piece s (w0 3) 1 7, piece s (w1 0) 0 8, piece s (w1 0) 1 9, piece s (w1 1) 0 10, piece s (w1 1) 1 11,
   piece s (w1 2) 0 12, piece s (w1 2) 1 13, piece s (w1 3) 0 14, piece s (w1 3) 1 15]

/-- Row `128 h + 32 f + l` of a block of weights: the signed byte of the code times its scale. -/
theorem wblock_apply (s : FVec Ideal S32x256 .bf16) (w : Fin 2 → Fin 4 → IVec S8x256 32) (h : Fin 2) (f : Fin 4) (l : Fin 32) (col : Fin 256) :
    wblock s (w 0) (w 1) (ix2 ⟨128 * h.val + 32 * f.val + l.val, by omega⟩ col)
      = (FloatOps.sitofp .bf16 (bitcast S32x256 8 (w h f) bitcasts_S8x256_w32_S32x256_w8 (ix2 l col)) : Ideal .bf16)
        * s (ix2 ⟨2 * (8 * h.val + 2 * f.val + l.val / 16), by omega⟩ col) := by
  have hl := l.isLt
  have e : wblock s (w 0) (w 1) (ix2 ⟨128 * h.val + 32 * f.val + l.val, by omega⟩ col)
      = ((pieces s (w 0) (w 1))[8 * h.val + 2 * f.val + l.val / 16]'(by show _ < 16; omega)) (ix2 ⟨l.val % 16, by omega⟩ col) := by
    unfold wblock
    rw [concatenate_apply]
    exact slabs_at _ (pieces s (w 0) (w 1)) _ _ _ _ (l.val % 16) (by show _ < 16; omega) (by omega)
      (by show 128 * h.val + 32 * f.val + l.val = _; omega)
  rw [e]
  have e' : (pieces s (w 0) (w 1))[8 * h.val + 2 * f.val + l.val / 16]'(by show _ < 16; omega)
      = piece s (w h f) ⟨l.val / 16, by omega⟩ ⟨8 * h.val + 2 * f.val + l.val / 16, by omega⟩ := by
    obtain ⟨j, hj⟩ : ∃ j : Fin 2, j.val = l.val / 16 := ⟨⟨l.val / 16, by omega⟩, rfl⟩
    simp only [← hj]
    fin_cases h <;> fin_cases f <;> fin_cases j <;> rfl
  rw [e', piece_apply]
  congr 4
  exact Fin.ext (by show 16 * (l.val / 16) + l.val % 16 = l.val; omega)

/-- The product of one superblock at an index. -/
theorem part_apply (xs : Fin 16 → Vec Ideal S256x256 .bf16) (ql : Fin 64 → Vec Ideal S32x256 .i8) (qh : Fin 32 → Vec Ideal S32x256 .i8)
    (raw : Fin 16 → Vec Ideal S16x2x256 .bf16) (n : Fin 16) (i col : Fin 256) :
    part xs ql qh raw n (ix2 i col) = ∑ r : Fin 256, (xs n (ix2 i r) : EReal) *
      wblock (scaleTable (raw n))
      (field (ql ⟨4 * n.val, by omega⟩) (ql ⟨4 * n.val + 1, by omega⟩) (qh ⟨2 * n.val, by omega⟩))
      (field (ql ⟨4 * n.val + 2, by omega⟩) (ql ⟨4 * n.val + 3, by omega⟩) (qh ⟨2 * n.val + 1, by omega⟩)) (ix2 r col) := by
  unfold part
  rw [shapeCast_self]
  generalize wblock (F := Ideal) _ _ _ = w
  simp only [ix2_eq_valueIdx]
  refine (Ideal.matmul_plain_apply (M := 256) (K := 256) (N := 256) (φ₁ := .bf16) (φ₂ := .bf16) none (xs n) w (constant (F := Ideal) S256x256 .f32 0x00000000#32) i col).trans ?_
  rw [show (constant (F := Ideal) S256x256 .f32 0x00000000#32) (ValueIdx.ix2 i col) = (0 : EReal) from Ideal.ofBits_zero_f32]
  exact zero_add _

/-- The sum of sixteen products at an index. -/
theorem sum16_apply (p : Fin 16 → FVec Ideal S256x256 .f32) (y : S256x256.Idx) : sum16 p y = ∑ n : Fin 16, (p n y : EReal) := by
  simp only [Fin.sum_univ_succ, Fin.sum_univ_zero, add_zero]
  simp only [← add_assoc]
  rfl

/-- A word of fields at an index. -/
theorem field_apply (lo hi qh : Vec Ideal S32x256 .i8) (f : Fin 4) (i : S8x256.Idx) :
    field lo hi qh f i = fieldWord f (asWords lo i) (asWords hi i) (asWords qh i) := by
  fin_cases f <;> rfl

/-- The signed byte of a code is four times the code less 128. -/
theorem field_byte (lo hi qh : Vec Ideal S32x256 .i8) (f : Fin 4) (l : Fin 32) (col : Fin 256) :
    (bitcast S32x256 8 (field lo hi qh f) bitcasts_S8x256_w32_S32x256_w8 (ix2 l col)).toInt
      = 4 * (code f (lo (ix2 l col)) (hi (ix2 l col)) (qh (ix2 l col))).toInt - 128 := by
  have hw (a : Vec Ideal S32x256 .i8) : (asWords a (ix2 ⟨l.val / 4, by omega⟩ col)).extractLsb' (8 * (l.val % 4)) 8 = a (ix2 l col) := by
    unfold asWords
    rw [shapeCast_self]
    exact bitcast_byte_word a _ l col
  rw [bitcast_word_byte, field_apply, fieldWord_byte f _ _ _ _ (by omega), hw, hw, hw, byte_toInt, code_eq]
  rfl

/-- One weight: the code less 32, times the superblock's half-precision number times the scale byte. -/
def weight (f : Fin 4) (lo hi q s : BitVec 8) (d : BitVec 16) : EReal :=
  ((((code f lo hi q).toInt : ℝ) - 32 : ℝ) : EReal) * (rHalf d * ((s.toInt : ℝ) : EReal))

/-- The quarter that the kernel multiplies by undoes the four in its bytes. -/
theorem weight_eq (f : Fin 4) (lo hi q s : BitVec 8) (d : BitVec 16) :
    (((4 * (code f lo hi q).toInt - 128 : Int) : ℝ) : EReal) * kScale s (kHalf d) = weight f lo hi q s d := by
  have h4 : (FloatOps.ofBits .f32 0x3E800000#32 : Ideal .f32) = ((1 / 4 : ℝ) : EReal) := by
    refine (ofBits_normal 0x3E800000#32 125 0 (by decide) (by omega) (by omega) (by omega)).trans ?_
    congr 1
    norm_num
  have hs : (FloatOps.sitofp .f32 s : Ideal .f32) = ((s.toInt : ℝ) : EReal) := rfl
  unfold kScale weight
  rw [h4, hs, kHalf_eq_rHalf]
  have e : (((code f lo hi q).toInt : ℝ) - 32 : ℝ) = ((4 * (code f lo hi q).toInt - 128 : Int) : ℝ) * (1 / 4) := by
    push_cast; ring
  rw [e, EReal.coe_mul]
  have key (A S D q : EReal) : A * (S * (D * q)) = A * q * (D * S) := by ac_rfl
  exact key _ _ _ _

/-- A sum over 256 rows, written over halves, fields and rows of a field. -/
theorem sum_256 (g : Fin 256 → EReal) :
    ∑ r : Fin 256, g r = ∑ h : Fin 2, ∑ f : Fin 4, ∑ l : Fin 32, g ⟨128 * h.val + 32 * f.val + l.val, by omega⟩ := by
  let e : Fin 2 × Fin 4 × Fin 32 ≃ Fin 256 := (Equiv.prodCongr (Equiv.refl _) (finProdFinEquiv (m := 4) (n := 32))).trans (finProdFinEquiv (m := 2) (n := 128))
  rw [← Equiv.sum_comp e, Fintype.sum_prod_type]
  refine Finset.sum_congr rfl fun h _ => ?_
  rw [Fintype.sum_prod_type]
  refine Finset.sum_congr rfl fun f _ => Finset.sum_congr rfl fun l _ => congrArg g (Fin.ext ?_)
  show l.val + 32 * f.val + 128 * h.val = _
  show _ = 128 * h.val + 32 * f.val + l.val
  omega

/-- The product of one row of activations with one row of weights, over superblocks, halves, fields and rows of a field. -/
def total (X : Fin 16 → Fin 2 → Fin 4 → Fin 32 → EReal) (QL : Fin 16 → Fin 2 → Fin 64 → BitVec 8) (QH : Fin 16 → Fin 2 → Fin 32 → BitVec 8)
    (SC : Fin 16 → Fin 16 → BitVec 8) (D : Fin 16 → BitVec 16) : EReal :=
  ∑ n : Fin 16, ∑ h : Fin 2, ∑ f : Fin 4, ∑ l : Fin 32,
    X n h f l * weight f (QL n h ⟨l.val, by omega⟩) (QL n h ⟨32 + l.val, by omega⟩) (QH n h l)
      (SC n ⟨8 * h.val + 2 * f.val + l.val / 16, by omega⟩) (D n)

/-- The kernel's sum over the superblocks at an index. -/
theorem sum16_part (arg : Memref sig .tc .vmem S256x2x256 .bf16) (x0 : Vec Ideal S256x4096 .bf16) (x1 : Vec Ideal S2048x256 .i8)
    (x2 : Vec Ideal S1024x256 .i8) (x3 : Vec Ideal S16x16x256 .i8) (x4 : Vec Ideal S16x256 .i16) (i col : Fin 256) :
    sum16 (part (fun n => View.ld x0 (rectX n)) (fun n => View.ld x1 (rectQl n)) (fun n => View.ld x2 (rectQh n))
      (fun n => arg.view.readCov (scalePieces (halfVec x4) (fun n => View.ld x3 (rectSc n))) (rectS n).toLoadRect)) (ix2 i col)
      = total (fun n h f l => x0 (ix2 i ⟨256 * n.val + 128 * h.val + 32 * f.val + l.val, by omega⟩))
        (fun n h q => x1 (ix2 ⟨128 * n.val + 64 * h.val + q.val, by omega⟩ col))
        (fun n h l => x2 (ix2 ⟨64 * n.val + 32 * h.val + l.val, by omega⟩ col))
        (fun n k => x3 (ix3 n k col)) (fun n => x4 (ix2 n col)) := by
  rw [sum16_apply]
  unfold total
  refine Finset.sum_congr rfl fun n _ => ?_
  rw [part_apply, sum_256]
  refine Finset.sum_congr rfl fun h _ => Finset.sum_congr rfl fun f _ => Finset.sum_congr rfl fun l _ => ?_
  have hx (r : Fin 256) : View.ld x0 (rectX n) (ix2 i r) = x0 (ix2 i ⟨256 * n.val + r.val, by omega⟩) := by
    unfold View.ld
    congr 1
    funext a
    match a with
    | ⟨0, _⟩ => exact Fin.ext (by show 0 + 1 * i.val = i.val; omega)
    | ⟨1, _⟩ => exact Fin.ext (by show 256 * n.val + 1 * r.val = 256 * n.val + r.val; omega)
  have hl (k : Fin 64) : View.ld x1 (rectQl k) (ix2 l col) = x1 (ix2 ⟨32 * k.val + l.val, by omega⟩ col) := by
    unfold View.ld
    congr 1
    funext a
    match a with
    | ⟨0, _⟩ => exact Fin.ext (by show 32 * k.val + 1 * l.val = 32 * k.val + l.val; omega)
    | ⟨1, _⟩ => exact Fin.ext (by show 0 + 1 * col.val = col.val; omega)
  have hh (k : Fin 32) : View.ld x2 (rectQh k) (ix2 l col) = x2 (ix2 ⟨32 * k.val + l.val, by omega⟩ col) := by
    unfold View.ld
    congr 1
    funext a
    match a with
    | ⟨0, _⟩ => exact Fin.ext (by show 32 * k.val + 1 * l.val = 32 * k.val + l.val; omega)
    | ⟨1, _⟩ => exact Fin.ext (by show 0 + 1 * col.val = col.val; omega)
  have hc (k : Fin 16) : View.ld x3 (rectSc n) (ix3 0 k col) = x3 (ix3 n k col) := by
    unfold View.ld
    congr 1
    funext a
    match a with
    | ⟨0, _⟩ => exact Fin.ext (by show n.val + 1 * 0 = n.val; omega)
    | ⟨1, _⟩ => exact Fin.ext (by show 0 + 1 * k.val = k.val; omega)
    | ⟨2, _⟩ => exact Fin.ext (by show 0 + 1 * col.val = col.val; omega)
  have hb (lo hi qh : Vec Ideal S32x256 .i8) : (FloatOps.sitofp .bf16 (bitcast S32x256 8 (field lo hi qh f) bitcasts_S8x256_w32_S32x256_w8 (ix2 l col)) : Ideal .bf16)
      = (((4 * (code f (lo (ix2 l col)) (hi (ix2 l col)) (qh (ix2 l col))).toInt - 128 : Int) : ℝ) : EReal) := by
    rw [← field_byte]; rfl
  have hw := wblock_apply (scaleTable (arg.view.readCov (scalePieces (halfVec x4) (fun n => View.ld x3 (rectSc n))) (rectS n).toLoadRect))
    (fun h' => field (View.ld x1 (rectQl ⟨4 * n.val + 2 * h'.val, by omega⟩)) (View.ld x1 (rectQl ⟨4 * n.val + 2 * h'.val + 1, by omega⟩))
      (View.ld x2 (rectQh ⟨2 * n.val + h'.val, by omega⟩))) h f l col
  refine congrArg₂ (· * ·) ?_ (hw.trans ?_)
  · rw [hx]
    congr 2
    exact Fin.ext (by show 256 * n.val + (128 * h.val + 32 * f.val + l.val) = 256 * n.val + 128 * h.val + 32 * f.val + l.val; omega)
  · rw [hb, scratch_apply arg (halfVec x4) (fun n => View.ld x3 (rectSc n)) n ⟨8 * h.val + 2 * f.val + l.val / 16, by omega⟩ col,
      halfVec_apply, hc, hl, hl, hh]
    refine (weight_eq _ _ _ _ _ _).trans ?_
    have e1 : (⟨32 * (4 * n.val + 2 * h.val) + l.val, by omega⟩ : Fin 2048) = ⟨128 * n.val + 64 * h.val + l.val, by omega⟩ :=
      Fin.ext (by show 32 * (4 * n.val + 2 * h.val) + l.val = 128 * n.val + 64 * h.val + l.val; omega)
    have e2 : (⟨32 * (4 * n.val + 2 * h.val + 1) + l.val, by omega⟩ : Fin 2048) = ⟨128 * n.val + 64 * h.val + (32 + l.val), by omega⟩ :=
      Fin.ext (by show 32 * (4 * n.val + 2 * h.val + 1) + l.val = 128 * n.val + 64 * h.val + (32 + l.val); omega)
    have e3 : (⟨32 * (2 * n.val + h.val) + l.val, by omega⟩ : Fin 1024) = ⟨64 * n.val + 32 * h.val + l.val, by omega⟩ :=
      Fin.ext (by show 32 * (2 * n.val + h.val) + l.val = 64 * n.val + 32 * h.val + l.val; omega)
    rw [e1, e2, e3]

/-- Row `i` of the activations times row `o` of one set of weights. -/
def rowTotal (a0 : (⟨S256x1x4096, .bf16⟩ : BufTy).Contents (Elt Ideal)) (a1 : (⟨S14336x16x2x64, .i8⟩ : BufTy).Contents (Elt Ideal))
    (a2 : (⟨S14336x16x2x32, .i8⟩ : BufTy).Contents (Elt Ideal)) (a3 : (⟨S14336x16x16, .i8⟩ : BufTy).Contents (Elt Ideal))
    (a4 : (⟨S14336x16, .i16⟩ : BufTy).Contents (Elt Ideal)) (i : Fin 256) (o : Fin 14336) : EReal :=
  total (fun n h f l => a0 (ix3 i 0 ⟨256 * n.val + 128 * h.val + 32 * f.val + l.val, by omega⟩))
    (fun n h q => a1 (ix4 o n h q)) (fun n h l => a2 (ix4 o n h l)) (fun n k => a3 (ix3 o n k)) (fun n => a4 (ix2 o n))

/-- The gate times its logistic times the other factor. -/
def swish (g u : EReal) : EReal := g * Ideal.logistic g * u

end Cert.Proof
-- ==== Proof.Windows.lean ====
/- What the kernel's windows hold at a grid point, in terms of the arguments. -/
module

public import proofs.«01_k».proof.Proof.Str
public import proofs.«01_k».proof.Proof.KernRead
public import Idealize.ShloMosaic.Lib.StableHlo.ReadAt

@[expose] public section

set_option maxRecDepth 16384

noncomputable section

namespace Cert.Proof

open Idealize.ShloMosaic Idealize.ShloMosaic.TcCoe Idealize.SL.Sem
open Cert.KernelIdeal Cert.KernelIdeal.Gen

variable {F : FTy → Type}
variable (m : (ℓ : Loc nD τ sig) → Buf (Elt F) ℓ)

/-! The arrays as the host hands them to the kernel, at an index. -/

/-- The activations. -/
theorem V_x (c : Dev nD) (i : Fin 256) (r : Fin 4096) : V m c main_v0 (ix2 i r) = m ((c : Thread nD τ).loc main_arg0) (ix3 i 0 r) := by
  unfold V
  after_reads_at

/-- The low nibbles of the gate weights. -/
theorem V_ql_gate (c : Dev nD) (n : Fin 16) (h : Fin 2) (q : Fin 64) (o : Fin 14336) : V m c main_v2 (ix2 ⟨128 * n.val + 64 * h.val + q.val, by omega⟩ o) = m ((c : Thread nD τ).loc main_arg1) (ix4 o n h q) := by
  unfold V
  after_reads_at

/-- The high bits of the gate weights. -/
theorem V_qh_gate (c : Dev nD) (n : Fin 16) (h : Fin 2) (l : Fin 32) (o : Fin 14336) : V m c main_v4 (ix2 ⟨64 * n.val + 32 * h.val + l.val, by omega⟩ o) = m ((c : Thread nD τ).loc main_arg2) (ix4 o n h l) := by
  unfold V
  after_reads_at

/-- The group scales of the gate weights. -/
theorem V_sc_gate (c : Dev nD) (n k : Fin 16) (o : Fin 14336) : V m c main_v5 (ix3 n k o) = m ((c : Thread nD τ).loc main_arg3) (ix3 o n k) := by
  unfold V
  after_reads_at

/-- The superblock scales of the gate weights. -/
theorem V_d_gate (c : Dev nD) (n : Fin 16) (o : Fin 14336) : V m c main_v6 (ix2 n o) = m ((c : Thread nD τ).loc main_arg4) (ix2 o n) := by
  unfold V
  after_reads_at

/-- The low nibbles of the up weights. -/
theorem V_ql_up (c : Dev nD) (n : Fin 16) (h : Fin 2) (q : Fin 64) (o : Fin 14336) : V m c main_v8 (ix2 ⟨128 * n.val + 64 * h.val + q.val, by omega⟩ o) = m ((c : Thread nD τ).loc main_arg5) (ix4 o n h q) := by
  unfold V
  after_reads_at

/-- The high bits of the up weights. -/
theorem V_qh_up (c : Dev nD) (n : Fin 16) (h : Fin 2) (l : Fin 32) (o : Fin 14336) : V m c main_v10 (ix2 ⟨64 * n.val + 32 * h.val + l.val, by omega⟩ o) = m ((c : Thread nD τ).loc main_arg6) (ix4 o n h l) := by
  unfold V
  after_reads_at

/-- The group scales of the up weights. -/
theorem V_sc_up (c : Dev nD) (n k : Fin 16) (o : Fin 14336) : V m c main_v11 (ix3 n k o) = m ((c : Thread nD τ).loc main_arg7) (ix3 o n k) := by
  unfold V
  after_reads_at

/-- The superblock scales of the up weights. -/
theorem V_d_up (c : Dev nD) (n : Fin 16) (o : Fin 14336) : V m c main_v12 (ix2 n o) = m ((c : Thread nD τ).loc main_arg8) (ix2 o n) := by
  unfold V
  after_reads_at

/-! The windows: the activations whole, and of each weight array the columns of one block. -/

/-- Where window 0 stands at a grid point. -/
theorem index_0 : ∀ t : Fin cfg0.N, win0_0.index t = ![0, 0] := (by decide +kernel : ∀ t : Fin grid0.N, win0_0.index t = ![0, 0])

/-- Where window 1 stands at a grid point. -/
theorem index_1 : ∀ t : Fin cfg0.N, win0_1.index t = ![0, t.val] := (by decide +kernel : ∀ t : Fin grid0.N, win0_1.index t = ![0, t.val])

/-- Where window 2 stands at a grid point. -/
theorem index_2 : ∀ t : Fin cfg0.N, win0_2.index t = ![0, t.val] := (by decide +kernel : ∀ t : Fin grid0.N, win0_2.index t = ![0, t.val])

/-- Where window 3 stands at a grid point. -/
theorem index_3 : ∀ t : Fin cfg0.N, win0_3.index t = ![0, 0, t.val] := (by decide +kernel : ∀ t : Fin grid0.N, win0_3.index t = ![0, 0, t.val])

/-- Where window 4 stands at a grid point. -/
theorem index_4 : ∀ t : Fin cfg0.N, win0_4.index t = ![0, t.val] := (by decide +kernel : ∀ t : Fin grid0.N, win0_4.index t = ![0, t.val])

/-- Where window 5 stands at a grid point. -/
theorem index_5 : ∀ t : Fin cfg0.N, win0_5.index t = ![0, t.val] := (by decide +kernel : ∀ t : Fin grid0.N, win0_5.index t = ![0, t.val])

/-- Where window 6 stands at a grid point. -/
theorem index_6 : ∀ t : Fin cfg0.N, win0_6.index t = ![0, t.val] := (by decide +kernel : ∀ t : Fin grid0.N, win0_6.index t = ![0, t.val])

/-- Where window 7 stands at a grid point. -/
theorem index_7 : ∀ t : Fin cfg0.N, win0_7.index t = ![0, 0, t.val] := (by decide +kernel : ∀ t : Fin grid0.N, win0_7.index t = ![0, 0, t.val])

/-- Where window 8 stands at a grid point. -/
theorem index_8 : ∀ t : Fin cfg0.N, win0_8.index t = ![0, t.val] := (by decide +kernel : ∀ t : Fin grid0.N, win0_8.index t = ![0, t.val])

/-- Where window 9 stands at a grid point. -/
theorem index_9 : ∀ t : Fin cfg0.N, win0_9.index t = ![0, t.val] := (by decide +kernel : ∀ t : Fin grid0.N, win0_9.index t = ![0, t.val])

/-- The column of the whole array that column `col` of block `t` is. -/
def colAt (t : Fin cfg0.N) (col : Fin 256) : Fin 14336 :=
  ⟨256 * t.val + col.val, by have h : t.val < 56 := t.isLt; omega⟩

/-- The activations at an index of their window. -/
theorem iblk_x (c : Dev nD) (t : Fin cfg0.N) (i : Fin 256) (r : Fin 4096) :
    iblk m c 0 t (ix2 i r) = m ((c : Thread nD τ).loc main_arg0) (ix3 i 0 r) := by
  have e : ((cfg0.win 0).blk t).view.emb (ix2 i r) = (ix2 i r : S256x4096.Idx) := by
    funext a
    match a with
    | ⟨0, _⟩ => exact Fin.ext (by
        show win0_0.index t 0 * 256 + 1 * i.val = i.val
        rw [index_0]
        simp)
    | ⟨1, _⟩ => exact Fin.ext (by
        show win0_0.index t 1 * 4096 + 1 * r.val = r.val
        rw [index_0]
        simp)
  show V m c main_v0 (((cfg0.win 0).blk t).view.emb (ix2 i r)) = _
  rw [e]
  exact V_x m c i r

/-- The low nibbles of the gate weights at an index of their window. -/
theorem iblk_ql_gate (c : Dev nD) (t : Fin cfg0.N) (n : Fin 16) (h : Fin 2) (q : Fin 64) (col : Fin 256) :
    iblk m c 1 t (ix2 ⟨128 * n.val + 64 * h.val + q.val, by omega⟩ col) = m ((c : Thread nD τ).loc main_arg1) (ix4 (colAt t col) n h q) := by
  have e : ((cfg0.win 1).blk t).view.emb (ix2 ⟨128 * n.val + 64 * h.val + q.val, by omega⟩ col) = (ix2 ⟨128 * n.val + 64 * h.val + q.val, by omega⟩ (colAt t col) : S2048x14336.Idx) := by
    funext a
    match a with
    | ⟨0, _⟩ => exact Fin.ext (by
        show win0_1.index t 0 * 2048 + 1 * (128 * n.val + 64 * h.val + q.val) = 128 * n.val + 64 * h.val + q.val
        rw [index_1]
        simp)
    | ⟨1, _⟩ => exact Fin.ext (by
        show win0_1.index t 1 * 256 + 1 * col.val = 256 * t.val + col.val
        rw [index_1]
        simp [Nat.mul_comm])
  show V m c main_v2 (((cfg0.win 1).blk t).view.emb (ix2 ⟨128 * n.val + 64 * h.val + q.val, by omega⟩ col)) = _
  rw [e]
  exact V_ql_gate m c n h q (colAt t col)

/-- The high bits of the gate weights at an index of their window. -/
theorem iblk_qh_gate (c : Dev nD) (t : Fin cfg0.N) (n : Fin 16) (h : Fin 2) (l : Fin 32) (col : Fin 256) :
    iblk m c 2 t (ix2 ⟨64 * n.val + 32 * h.val + l.val, by omega⟩ col) = m ((c : Thread nD τ).loc main_arg2) (ix4 (colAt t col) n h l) := by
  have e : ((cfg0.win 2).blk t).view.emb (ix2 ⟨64 * n.val + 32 * h.val + l.val, by omega⟩ col) = (ix2 ⟨64 * n.val + 32 * h.val + l.val, by omega⟩ (colAt t col) : S1024x14336.Idx) := by
    funext a
    match a with
    | ⟨0, _⟩ => exact Fin.ext (by
        show win0_2.index t 0 * 1024 + 1 * (64 * n.val + 32 * h.val + l.val) = 64 * n.val + 32 * h.val + l.val
        rw [index_2]
        simp)
    | ⟨1, _⟩ => exact Fin.ext (by
        show win0_2.index t 1 * 256 + 1 * col.val = 256 * t.val + col.val
        rw [index_2]
        simp [Nat.mul_comm])
  show V m c main_v4 (((cfg0.win 2).blk t).view.emb (ix2 ⟨64 * n.val + 32 * h.val + l.val, by omega⟩ col)) = _
  rw [e]
  exact V_qh_gate m c n h l (colAt t col)

/-- The group scales of the gate weights at an index of their window. -/
theorem iblk_sc_gate (c : Dev nD) (t : Fin cfg0.N) (n k : Fin 16) (col : Fin 256) :
    iblk m c 3 t (ix3 n k col) = m ((c : Thread nD τ).loc main_arg3) (ix3 (colAt t col) n k) := by
  have e : ((cfg0.win 3).blk t).view.emb (ix3 n k col) = (ix3 n k (colAt t col) : S16x16x14336.Idx) := by
    funext a
    match a with
    | ⟨0, _⟩ => exact Fin.ext (by
        show win0_3.index t 0 * 16 + 1 * n.val = n.val
        rw [index_3]
        simp)
    | ⟨1, _⟩ => exact Fin.ext (by
        show win0_3.index t 1 * 16 + 1 * k.val = k.val
        rw [index_3]
        simp)
    | ⟨2, _⟩ => exact Fin.ext (by
        show win0_3.index t 2 * 256 + 1 * col.val = 256 * t.val + col.val
        rw [index_3]
        simp [Nat.mul_comm])
  show V m c main_v5 (((cfg0.win 3).blk t).view.emb (ix3 n k col)) = _
  rw [e]
  exact V_sc_gate m c n k (colAt t col)

/-- The superblock scales of the gate weights at an index of their window. -/
theorem iblk_d_gate (c : Dev nD) (t : Fin cfg0.N) (n : Fin 16) (col : Fin 256) :
    iblk m c 4 t (ix2 n col) = m ((c : Thread nD τ).loc main_arg4) (ix2 (colAt t col) n) := by
  have e : ((cfg0.win 4).blk t).view.emb (ix2 n col) = (ix2 n (colAt t col) : S16x14336.Idx) := by
    funext a
    match a with
    | ⟨0, _⟩ => exact Fin.ext (by
        show win0_4.index t 0 * 16 + 1 * n.val = n.val
        rw [index_4]
        simp)
    | ⟨1, _⟩ => exact Fin.ext (by
        show win0_4.index t 1 * 256 + 1 * col.val = 256 * t.val + col.val
        rw [index_4]
        simp [Nat.mul_comm])
  show V m c main_v6 (((cfg0.win 4).blk t).view.emb (ix2 n col)) = _
  rw [e]
  exact V_d_gate m c n (colAt t col)

/-- The low nibbles of the up weights at an index of their window. -/
theorem iblk_ql_up (c : Dev nD) (t : Fin cfg0.N) (n : Fin 16) (h : Fin 2) (q : Fin 64) (col : Fin 256) :
    iblk m c 5 t (ix2 ⟨128 * n.val + 64 * h.val + q.val, by omega⟩ col) = m ((c : Thread nD τ).loc main_arg5) (ix4 (colAt t col) n h q) := by
  have e : ((cfg0.win 5).blk t).view.emb (ix2 ⟨128 * n.val + 64 * h.val + q.val, by omega⟩ col) = (ix2 ⟨128 * n.val + 64 * h.val + q.val, by omega⟩ (colAt t col) : S2048x14336.Idx) := by
    funext a
    match a with
    | ⟨0, _⟩ => exact Fin.ext (by
        show win0_5.index t 0 * 2048 + 1 * (128 * n.val + 64 * h.val + q.val) = 128 * n.val + 64 * h.val + q.val
        rw [index_5]
        simp)
    | ⟨1, _⟩ => exact Fin.ext (by
        show win0_5.index t 1 * 256 + 1 * col.val = 256 * t.val + col.val
        rw [index_5]
        simp [Nat.mul_comm])
  show V m c main_v8 (((cfg0.win 5).blk t).view.emb (ix2 ⟨128 * n.val + 64 * h.val + q.val, by omega⟩ col)) = _
  rw [e]
  exact V_ql_up m c n h q (colAt t col)

/-- The high bits of the up weights at an index of their window. -/
theorem iblk_qh_up (c : Dev nD) (t : Fin cfg0.N) (n : Fin 16) (h : Fin 2) (l : Fin 32) (col : Fin 256) :
    iblk m c 6 t (ix2 ⟨64 * n.val + 32 * h.val + l.val, by omega⟩ col) = m ((c : Thread nD τ).loc main_arg6) (ix4 (colAt t col) n h l) := by
  have e : ((cfg0.win 6).blk t).view.emb (ix2 ⟨64 * n.val + 32 * h.val + l.val, by omega⟩ col) = (ix2 ⟨64 * n.val + 32 * h.val + l.val, by omega⟩ (colAt t col) : S1024x14336.Idx) := by
    funext a
    match a with
    | ⟨0, _⟩ => exact Fin.ext (by
        show win0_6.index t 0 * 1024 + 1 * (64 * n.val + 32 * h.val + l.val) = 64 * n.val + 32 * h.val + l.val
        rw [index_6]
        simp)
    | ⟨1, _⟩ => exact Fin.ext (by
        show win0_6.index t 1 * 256 + 1 * col.val = 256 * t.val + col.val
        rw [index_6]
        simp [Nat.mul_comm])
  show V m c main_v10 (((cfg0.win 6).blk t).view.emb (ix2 ⟨64 * n.val + 32 * h.val + l.val, by omega⟩ col)) = _
  rw [e]
  exact V_qh_up m c n h l (colAt t col)

/-- The group scales of the up weights at an index of their window. -/
theorem iblk_sc_up (c : Dev nD) (t : Fin cfg0.N) (n k : Fin 16) (col : Fin 256) :
    iblk m c 7 t (ix3 n k col) = m ((c : Thread nD τ).loc main_arg7) (ix3 (colAt t col) n k) := by
  have e : ((cfg0.win 7).blk t).view.emb (ix3 n k col) = (ix3 n k (colAt t col) : S16x16x14336.Idx) := by
    funext a
    match a with
    | ⟨0, _⟩ => exact Fin.ext (by
        show win0_7.index t 0 * 16 + 1 * n.val = n.val
        rw [index_7]
        simp)
    | ⟨1, _⟩ => exact Fin.ext (by
        show win0_7.index t 1 * 16 + 1 * k.val = k.val
        rw [index_7]
        simp)
    | ⟨2, _⟩ => exact Fin.ext (by
        show win0_7.index t 2 * 256 + 1 * col.val = 256 * t.val + col.val
        rw [index_7]
        simp [Nat.mul_comm])
  show V m c main_v11 (((cfg0.win 7).blk t).view.emb (ix3 n k col)) = _
  rw [e]
  exact V_sc_up m c n k (colAt t col)

/-- The superblock scales of the up weights at an index of their window. -/
theorem iblk_d_up (c : Dev nD) (t : Fin cfg0.N) (n : Fin 16) (col : Fin 256) :
    iblk m c 8 t (ix2 n col) = m ((c : Thread nD τ).loc main_arg8) (ix2 (colAt t col) n) := by
  have e : ((cfg0.win 8).blk t).view.emb (ix2 n col) = (ix2 n (colAt t col) : S16x14336.Idx) := by
    funext a
    match a with
    | ⟨0, _⟩ => exact Fin.ext (by
        show win0_8.index t 0 * 16 + 1 * n.val = n.val
        rw [index_8]
        simp)
    | ⟨1, _⟩ => exact Fin.ext (by
        show win0_8.index t 1 * 256 + 1 * col.val = 256 * t.val + col.val
        rw [index_8]
        simp [Nat.mul_comm])
  show V m c main_v12 (((cfg0.win 8).blk t).view.emb (ix2 n col)) = _
  rw [e]
  exact V_d_up m c n (colAt t col)

end Cert.Proof
-- ==== Proof.Block.lean ====
/- The kernel's result: the block of a grid point, and the whole array. -/
module

public import proofs.«01_k».proof.Proof.Str
public import proofs.«01_k».proof.Proof.Windows

@[expose] public section

set_option maxRecDepth 16384

noncomputable section

namespace Cert.Proof

open Idealize.ShloMosaic Idealize.ShloMosaic.TcCoe Idealize.SL.Sem
open Cert.KernelIdeal Cert.KernelIdeal.Gen

/-- A sum over the superblocks in terms of the blocks in the windows. -/
def blockSum {F : FTy → Type} [FloatOps F] (arg : Memref sig .tc .vmem S256x2x256 .bf16) (x0 : Vec F S256x4096 .bf16) (x1 : Vec F S2048x256 .i8)
    (x2 : Vec F S1024x256 .i8) (x3 : Vec F S16x16x256 .i8) (x4 : Vec F S16x256 .i16) : FVec F S256x256 .f32 :=
  sum16 (part (fun n => View.ld x0 (rectX n)) (fun n => View.ld x1 (rectQl n)) (fun n => View.ld x2 (rectQh n))
    (fun n => arg.view.readCov (scalePieces (halfVec x4) (fun n => View.ld x3 (rectSc n))) (rectS n).toLoadRect))

/-- What the kernel leaves in the output window at a grid point, in terms of the blocks in its other windows. -/
theorem outs_eq {F : FTy → Type} [FloatOps F] (m : (ℓ : Loc nD τ sig) → Buf (Elt F) ℓ) (c : Dev nD) (t : Fin cfg0.N) :
    outsAt0 m c t = gated (blockSum scM0_0 (iblk m c 0 t) (iblk m c 1 t) (iblk m c 2 t) (iblk m c 3 t) (iblk m c 4 t))
      (blockSum scM0_1 (iblk m c 0 t) (iblk m c 5 t) (iblk m c 6 t) (iblk m c 7 t) (iblk m c 8 t)) := by
  have hz : (![0, 0] : Fin S256x256.rank → Nat) = fun _ => 0 := funext fun a => by fin_cases a <;> rfl
  have hz' : (![0, 0] : Fin S16x256.rank → Nat) = fun _ => 0 := funext fun a => by fin_cases a <;> rfl
  unfold outsAt0 out0_A_9
  rw [View.read_writes_eq_canon _ _ _ (cover0_A_9 c _ _ _ _ _ _ _ _ _ _ _ _ _ _ _ _ _ _ _ _ _ _ _ _ _ _ _ _ _ _ _ _ _ _)]
  unfold kernelRun0_A
  dsimp only
  rw [View.canon_unit_zero hz, body_eq, pieces_gate, pieces_up]
  have hd (x : Vec F S16x256 .i16) : View.ld x (Rect.unit (s := S16x256) ![0, 0] S16x256.size inb_S16x256_S16x256_0_0) = x := View.ld_unit_zero hz' _ x
  simp only [View.readAt_eq_ld, Memref.IsWhole.read_unread, hd]
  unfold blockSum
  rfl

/-- The sum over the superblocks at an index, over the extended reals. -/
theorem blockSum_apply (arg : Memref sig .tc .vmem S256x2x256 .bf16) (x0 : Vec Ideal S256x4096 .bf16) (x1 : Vec Ideal S2048x256 .i8)
    (x2 : Vec Ideal S1024x256 .i8) (x3 : Vec Ideal S16x16x256 .i8) (x4 : Vec Ideal S16x256 .i16) (i col : Fin 256) :
    blockSum arg x0 x1 x2 x3 x4 (ix2 i col)
      = total (fun n h f l => x0 (ix2 i ⟨256 * n.val + 128 * h.val + 32 * f.val + l.val, by omega⟩))
        (fun n h q => x1 (ix2 ⟨128 * n.val + 64 * h.val + q.val, by omega⟩ col))
        (fun n h l => x2 (ix2 ⟨64 * n.val + 32 * h.val + l.val, by omega⟩ col))
        (fun n k => x3 (ix3 n k col)) (fun n => x4 (ix2 n col)) :=
  sum16_part arg x0 x1 x2 x3 x4 i col

variable (m : (ℓ : Loc nD τ sig) → Buf (Elt Ideal) ℓ)

/-- The gate product of a row of activations and a row of weights, of the arrays in memory. -/
def gateOf (c : Dev nD) (i : Fin 256) (o : Fin 14336) : EReal :=
  rowTotal (m ((c : Thread nD τ).loc main_arg0)) (m ((c : Thread nD τ).loc main_arg1)) (m ((c : Thread nD τ).loc main_arg2))
    (m ((c : Thread nD τ).loc main_arg3)) (m ((c : Thread nD τ).loc main_arg4)) i o

/-- The up product of a row of activations and a row of weights, of the arrays in memory. -/
def upOf (c : Dev nD) (i : Fin 256) (o : Fin 14336) : EReal :=
  rowTotal (m ((c : Thread nD τ).loc main_arg0)) (m ((c : Thread nD τ).loc main_arg5)) (m ((c : Thread nD τ).loc main_arg6))
    (m ((c : Thread nD τ).loc main_arg7)) (m ((c : Thread nD τ).loc main_arg8)) i o

/-- The whole result of the kernel. -/
def resultOf (c : Dev nD) : Buf (Elt Ideal) ((c : Thread nD τ).loc main_v13) :=
  fun j : S256x14336.Idx => swish (gateOf m c (j 0) (j 1)) (upOf m c (j 0) (j 1))

/-- What the kernel leaves in the output window at an index. -/
theorem outs_apply (c : Dev nD) (t : Fin cfg0.N) (i col : Fin 256) :
    outsAt0 m c t (ix2 i col) = swish (gateOf m c i (colAt t col)) (upOf m c i (colAt t col)) := by
  have hg : blockSum scM0_0 (iblk m c 0 t) (iblk m c 1 t) (iblk m c 2 t) (iblk m c 3 t) (iblk m c 4 t) (ix2 i col) = gateOf m c i (colAt t col) := by
    rw [blockSum_apply]
    simp only [iblk_x, iblk_ql_gate, iblk_qh_gate, iblk_sc_gate, iblk_d_gate]
    rfl
  have hu : blockSum scM0_1 (iblk m c 0 t) (iblk m c 5 t) (iblk m c 6 t) (iblk m c 7 t) (iblk m c 8 t) (ix2 i col) = upOf m c i (colAt t col) := by
    rw [blockSum_apply]
    simp only [iblk_x, iblk_ql_up, iblk_qh_up, iblk_sc_up, iblk_d_up]
    rfl
  rw [outs_eq, ← hg, ← hu]
  generalize blockSum (F := Ideal) scM0_0 _ _ _ _ _ = g
  generalize blockSum (F := Ideal) scM0_1 _ _ _ _ _ = u
  rfl

/-- What a grid point writes back is its block of the whole result. -/
theorem flushed_eq (c : Dev nD) (t : Fin cfg0.N) :
    (dats m 0 c).flushed 9 t = ((cfg0.win 9).blk t).view.read (Elt Ideal) (resultOf m c) := by
  rw [Cert.KernelIdeal.Value.flushed9]
  funext j
  have e : ((cfg0.win 9).blk t).view.emb j = (ix2 (j 0) (colAt t (j 1)) : S256x14336.Idx) := by
    funext a
    match a with
    | ⟨0, _⟩ => exact Fin.ext (by
        show win0_9.index t 0 * 256 + 1 * (j 0).val = (j 0).val
        rw [index_9]
        simp)
    | ⟨1, _⟩ => exact Fin.ext (by
        show win0_9.index t 1 * 256 + 1 * (j 1).val = 256 * t.val + (j 1).val
        rw [index_9]
        simp
        omega)
  show outsAt0 m c t j = resultOf m c (((cfg0.win 9).blk t).view.emb j)
  rw [e]
  have hj : j = (ix2 (j 0) (j 1) : S256x256.Idx) := eq_ix2 j
  refine (congrArg (outsAt0 m c t) hj).trans ?_
  exact outs_apply m c t (j 0) (j 1)

/-- The blocks written back cover the result. -/
theorem cover (i : S256x14336.Idx) : ∃ t : Fin cfg0.N, (cfg0.win 9).flush t = true ∧ i ∈ ((cfg0.win 9).blk t).view.set := by
  have h0 : (i 0).val < 256 := (i 0).isLt
  have h1 : (i 1).val < 14336 := (i 1).isLt
  have ht : (i 1).val / 256 < cfg0.N := by
    have : cfg0.N = 56 := N_0
    omega
  refine ⟨⟨(i 1).val / 256, ht⟩, flush0_9 _, ?_⟩
  show i ∈ ((View.whole main_v13).slice (win0_9.rect ⟨(i 1).val / 256, ht⟩)).set
  rw [View.set_slice_whole, Rect.mem_set_unit]
  intro a
  match a with
  | ⟨0, _⟩ =>
    show win0_9.index _ 0 * 256 ≤ (i 0).val ∧ (i 0).val < win0_9.index _ 0 * 256 + 256
    rw [index_9]
    simp
    omega
  | ⟨1, _⟩ =>
    show win0_9.index _ 1 * 256 ≤ (i 1).val ∧ (i 1).val < win0_9.index _ 1 * 256 + 256
    rw [index_9]
    simp
    omega

/-- The result array after the run. -/
theorem final_eq (c : Dev nD) : (dats m 0 c).arrAt 9 cfg0.N = resultOf m c :=
  (dats m 0 c).arrAt_eq_of_cover 9 (resultOf m c) (fun t _ => flushed_eq m c t) cover

end Cert.Proof
-- ==== Proof.RefRead.lean ====
/- The reference over the extended reals at an index: each of its two products is the same sum that the kernel's is. -/
module

public import proofs.«01_k».proof.Proof.Gen.ReferenceIdeal.Read
public import proofs.«01_k».proof.Proof.KernRead
public import Idealize.ShloMosaic.Lib.Pointwise
public import Idealize.ShloMosaic.PureOps.Ideal.Laws
public import Idealize.ShloMosaic.Lib.IdealHost

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Read

variable {F : FTy → Type} [FloatOps F]

/-- A field of the activations lies inside them. -/
theorem slices_x (f : Fin 4) : S256x1x16x2x4x32.Slices ![0, 0, 0, 0, f.val, 0] S256x1x16x2x1x32 := by decide +revert
/-- A field of the scales lies inside them. -/
theorem slices_s (f : Fin 4) : S14336x16x2x4x2x1.Slices ![0, 0, 0, f.val, 0, 0] S14336x16x2x1x2x1 := by decide +revert

/-- Field `f` of the activations. -/
def xField (x0 : (⟨S256x1x4096, .bf16⟩ : BufTy).Contents (Elt F)) (f : Fin 4) : (⟨S256x1x16x2x32, .bf16⟩ : BufTy).Contents (Elt F) :=
  shapeCast _ (extractStridedSlice S256x1x16x2x1x32 ![0, 0, 0, 0, f.val, 0] (shapeCast S256x1x16x2x4x32 x0 shapeCasts_S256x1x4096_S256x1x16x2x4x32) (slices_x f))
    shapeCasts_S256x1x16x2x1x32_S256x1x16x2x32

/-- Field `f` of the weights, from its codes and the scales. -/
def wField (codes : (⟨S14336x16x2x32, .i32⟩ : BufTy).Contents (Elt F)) (eff : (⟨S14336x16x16, .bf16⟩ : BufTy).Contents (Elt F)) (f : Fin 4) :
    (⟨S14336x16x2x32, .bf16⟩ : BufTy).Contents (Elt F) :=
  shapeCast _ (mulf
    (shapeCast S14336x16x2x2x16 (subf (sitofp .bf16 codes) (broadcastInDim S14336x16x2x32 ![] bcast_S_S14336x16x2x32 (constant S_ .bf16 0x4200#16)) : FVec F S14336x16x2x32 .bf16)
      shapeCasts_S14336x16x2x32_S14336x16x2x2x16)
    (broadcastInDim S14336x16x2x2x16 ![0, 1, 2, 3, 4] bcast_S14336x16x2x2x1_S14336x16x2x2x16_0_1_2_3_4
      (shapeCast S14336x16x2x2x1 (extractStridedSlice S14336x16x2x1x2x1 ![0, 0, 0, f.val, 0, 0]
        (shapeCast S14336x16x2x4x2x1 eff shapeCasts_S14336x16x16_S14336x16x2x4x2x1) (slices_s f)) shapeCasts_S14336x16x2x1x2x1_S14336x16x2x2x1)))
    shapeCasts_S14336x16x2x2x16_S14336x16x2x32

/-- The product of field `f` of the activations with field `f` of the weights. -/
def dotField (x0 : (⟨S256x1x4096, .bf16⟩ : BufTy).Contents (Elt F)) (codes : (⟨S14336x16x2x32, .i32⟩ : BufTy).Contents (Elt F))
    (eff : (⟨S14336x16x16, .bf16⟩ : BufTy).Contents (Elt F)) (f : Fin 4) : (⟨S256x1x14336, .f32⟩ : BufTy).Contents (Elt F) :=
  Host.dotGeneral dot_S256x1x16x2x32_S14336x16x2x32_S256x1x14336_342_231_01_0_n_n none (xField x0 f) (wField codes eff f)

/-- The reference's codes of field `f`. -/
def codes (x1 : (⟨S14336x16x2x64, .i8⟩ : BufTy).Contents (Elt F)) (x2 : (⟨S14336x16x2x32, .i8⟩ : BufTy).Contents (Elt F)) (f : Fin 4) :
    (⟨S14336x16x2x32, .i32⟩ : BufTy).Contents (Elt F) :=
  match f with
  | 0 => val_main_v11 x1 x2
  | 1 => val_main_v20 x1 x2
  | 2 => val_main_v29 x1 x2
  | 3 => val_main_v38 x1 x2

/-- The reference's first product is the sum over the four fields. -/
theorem gate_eq (x0 : (⟨S256x1x4096, .bf16⟩ : BufTy).Contents (Elt F)) (x1 : (⟨S14336x16x2x64, .i8⟩ : BufTy).Contents (Elt F))
    (x2 : (⟨S14336x16x2x32, .i8⟩ : BufTy).Contents (Elt F)) (x3 : (⟨S14336x16x16, .i8⟩ : BufTy).Contents (Elt F)) (x4 : (⟨S14336x16, .i16⟩ : BufTy).Contents (Elt F)) :
    val_main_v128 x0 x1 x2 x3 x4 = addf (addf (addf (dotField x0 (codes x1 x2 0) (val_main_v76 x3 x4) 0) (dotField x0 (codes x1 x2 1) (val_main_v76 x3 x4) 1))
      (dotField x0 (codes x1 x2 2) (val_main_v76 x3 x4) 2)) (dotField x0 (codes x1 x2 3) (val_main_v76 x3 x4) 3) := rfl

/-- The reference's second product is the first one's function of the other weights. -/
theorem up_eq (x0 : (⟨S256x1x4096, .bf16⟩ : BufTy).Contents (Elt F)) (x1 : (⟨S14336x16x2x64, .i8⟩ : BufTy).Contents (Elt F))
    (x2 : (⟨S14336x16x2x32, .i8⟩ : BufTy).Contents (Elt F)) (x3 : (⟨S14336x16x16, .i8⟩ : BufTy).Contents (Elt F)) (x4 : (⟨S14336x16, .i16⟩ : BufTy).Contents (Elt F)) :
    val_main_v256 x0 x1 x2 x3 x4 = val_main_v128 x0 x1 x2 x3 x4 := rfl

omit [FloatOps F] in
/-- Field `f` of the activations at an index. -/
theorem xField_apply (x0 : (⟨S256x1x4096, .bf16⟩ : BufTy).Contents (Elt F)) (f : Fin 4) (i : Fin 256) (n : Fin 16) (h : Fin 2) (l : Fin 32) :
    xField x0 f (ix5 i 0 n h l) = x0 (ix3 i 0 ⟨256 * n.val + 128 * h.val + 32 * f.val + l.val, by omega⟩) := by
  unfold xField
  pointwise
  exact congrArg (fun k => x0 (ix3 i 0 k)) (Fin.ext (by
    show n.val * 256 + h.val * 128 + f.val * 32 + l.val = 256 * n.val + 128 * h.val + 32 * f.val + l.val
    omega))

/-- Field `f` of the weights at an index. -/
theorem wField_apply (codes : (⟨S14336x16x2x32, .i32⟩ : BufTy).Contents (Elt F)) (eff : (⟨S14336x16x16, .bf16⟩ : BufTy).Contents (Elt F)) (f : Fin 4)
    (o : Fin 14336) (n : Fin 16) (h : Fin 2) (l : Fin 32) :
    wField codes eff f (ix4 o n h l) = FloatOps.mulf (FloatOps.subf (FloatOps.sitofp .bf16 (codes (ix4 o n h l))) (FloatOps.ofBits .bf16 0x4200#16))
      (eff (ix3 o n ⟨8 * h.val + 2 * f.val + l.val / 16, by omega⟩)) := by
  unfold wField
  pointwise
  refine congrArg (fun k => FloatOps.mulf _ (eff (ix3 o n k))) (Fin.ext ?_)
  show h.val * 8 + f.val * 2 + l.val / 16 = 8 * h.val + 2 * f.val + l.val / 16
  omega

/-- The reference's scale of a superblock's group at an index. -/
theorem scale_apply (x3 : (⟨S14336x16x16, .i8⟩ : BufTy).Contents (Elt F)) (x4 : (⟨S14336x16, .i16⟩ : BufTy).Contents (Elt F)) (o : Fin 14336) (n k : Fin 16) :
    val_main_v76 x3 x4 (ix3 o n k) = FloatOps.truncf .bf16 bitsLt_bf16_f32 (FloatOps.mulf (val_main_v70 x4 (ix2 o n)) (FloatOps.sitofp .f32 ((x3 (ix3 o n k)).signExtend 32))) := by
  pointwise [val_main_v76, val_main_v75, val_main_v74, val_main_v73, val_main_v72, val_main_v71]

/-- The reference's decoding of a half-precision number, over any floats. -/
def rHalfOne (b : BitVec 16) : F .f32 :=
  let w := b.signExtend 32
  let mant := IntOp.andi w 1023#32
  let e := IntOp.andi (IntOp.shrsi .host w 10#32) 31#32
  let normal : F .f32 := FloatOps.mulf (FloatOps.mulf (FloatOps.sitofp .f32 (IntOp.addi mant 1024#32))
    (FloatOps.sitofp .f32 (IntOp.shli .host 1#32 e))) (FloatOps.ofBits .f32 0x33000000#32)
  let sub : F .f32 := FloatOps.mulf (FloatOps.sitofp .f32 mant) (FloatOps.ofBits .f32 0x33800000#32)
  let special : F .f32 := Scalar.select (IntOp.cmpi .eq mant 0#32) (FloatOps.ofBits .f32 0x7F800000#32) (FloatOps.ofBits .f32 0x7FC00000#32)
  let value := Scalar.select (IntOp.cmpi .eq e 0#32) sub (Scalar.select (IntOp.cmpi .eq e 31#32) special normal)
  Scalar.select (IntOp.cmpi .slt w 0#32) (FloatOps.hostNegf value) value

/-- The reference's half-precision numbers at an index. -/
theorem half_apply (x4 : (⟨S14336x16, .i16⟩ : BufTy).Contents (Elt F)) (i : S14336x16.Idx) : val_main_v70 x4 i = rHalfOne (x4 i) := rfl

/-- Over the extended reals it is the decoding that the kernel's is compared with. -/
theorem rHalfOne_ideal (b : BitVec 16) : (rHalfOne b : Ideal .f32) = rHalf b := by
  unfold rHalfOne rHalf
  rfl

/-- The reference's codes of field `f` at an index. -/
theorem codes_apply (x1 : (⟨S14336x16x2x64, .i8⟩ : BufTy).Contents (Elt F)) (x2 : (⟨S14336x16x2x32, .i8⟩ : BufTy).Contents (Elt F)) (f : Fin 4)
    (o : Fin 14336) (n : Fin 16) (h : Fin 2) (l : Fin 32) :
    codes (F := F) x1 x2 f (ix4 o n h l) = code f (x1 (ix4 o n h ⟨l.val, by omega⟩)) (x1 (ix4 o n h ⟨32 + l.val, by omega⟩)) (x2 (ix4 o n h l)) := by
  have e3 : idx_main_v3 (ix4 o n h l) = ix4 o n h ⟨l.val, by omega⟩ := by
    funext a
    match a with
    | ⟨0, _⟩ => rfl
    | ⟨1, _⟩ => rfl
    | ⟨2, _⟩ => rfl
    | ⟨3, _⟩ => rfl
  have e4 : idx_main_v4 (ix4 o n h l) = ix4 o n h ⟨32 + l.val, by omega⟩ := by
    funext a
    match a with
    | ⟨0, _⟩ => rfl
    | ⟨1, _⟩ => rfl
    | ⟨2, _⟩ => rfl
    | ⟨3, _⟩ => rfl
  have hlo := val_main_v3_apply (F := F) x1 (ix4 o n h l)
  have hhi := val_main_v4_apply (F := F) x1 (ix4 o n h l)
  rw [e3, val_main_v1_apply] at hlo
  rw [e4, val_main_v1_apply] at hhi
  unfold code
  rw [← hlo, ← hhi]
  match f with
  | 0 => rfl
  | 1 => rfl
  | 2 => rfl
  | 3 => rfl

/-- The contracted axes of the reference's products: halves, rows of a field, superblocks. -/
def contrEquiv : (dot_S256x1x16x2x32_S14336x16x2x32_S256x1x14336_342_231_01_0_n_n).contr.Idx ≃ Fin 2 × Fin 32 × Fin 16 where
  toFun q := (q ⟨0, by decide⟩, q ⟨1, by decide⟩, q ⟨2, by decide⟩)
  invFun p := fun a => match a with
    | ⟨0, _⟩ => p.1
    | ⟨1, _⟩ => p.2.1
    | ⟨2, _⟩ => p.2.2
  left_inv q := by
    funext a
    match a with
    | ⟨0, _⟩ => rfl
    | ⟨1, _⟩ => rfl
    | ⟨2, _⟩ => rfl
  right_inv p := rfl

/-- The product of one field at an index. -/
theorem dotField_apply (x0 : (⟨S256x1x4096, .bf16⟩ : BufTy).Contents (Elt Ideal)) (codes : (⟨S14336x16x2x32, .i32⟩ : BufTy).Contents (Elt Ideal))
    (eff : (⟨S14336x16x16, .bf16⟩ : BufTy).Contents (Elt Ideal)) (f : Fin 4) (i : Fin 256) (o : Fin 14336) :
    dotField x0 codes eff f (ix3 i 0 o) = ∑ n : Fin 16, ∑ h : Fin 2, ∑ l : Fin 32,
      xField x0 f (ix5 i 0 n h l) * wField codes eff f (ix4 o n h l) := by
  unfold dotField
  generalize xField x0 f = X
  generalize wField codes eff f = W
  simp only [Host.dotGeneral]
  rw [Ideal.dotGeneral_apply, ← Equiv.sum_comp contrEquiv.symm, Fintype.sum_prod_type]
  have e (h : Fin 2) (l : Fin 32) (n : Fin 16) :
      X ((dot_S256x1x16x2x32_S14336x16x2x32_S256x1x14336_342_231_01_0_n_n).lhsIdx (ix3 i 0 o) (contrEquiv.symm (h, l, n))) *
        W ((dot_S256x1x16x2x32_S14336x16x2x32_S256x1x14336_342_231_01_0_n_n).rhsIdx (ix3 i 0 o) (contrEquiv.symm (h, l, n))) =
      X (ix5 i 0 n h l) * W (ix4 o n h l) := by
    congr 2
    · funext a
      apply Fin.ext
      match a with
      | ⟨0, _⟩ => rfl
      | ⟨1, _⟩ => rfl
      | ⟨2, _⟩ => rfl
      | ⟨3, _⟩ => rfl
      | ⟨4, _⟩ => rfl
    · funext a
      apply Fin.ext
      match a with
      | ⟨0, _⟩ => rfl
      | ⟨1, _⟩ => rfl
      | ⟨2, _⟩ => rfl
      | ⟨3, _⟩ => rfl
  simp only [Fintype.sum_prod_type, e]
  exact (Finset.sum_congr rfl fun h _ => Finset.sum_comm).trans Finset.sum_comm

/-- A weight as the reference spells it. -/
theorem weight_ref (f : Fin 4) (lo hi q s : BitVec 8) (d : BitVec 16) :
    (FloatOps.mulf (FloatOps.subf (FloatOps.sitofp .bf16 (code f lo hi q)) (FloatOps.ofBits .bf16 0x4200#16))
      (FloatOps.truncf .bf16 bitsLt_bf16_f32 (FloatOps.mulf (rHalf d) (FloatOps.sitofp .f32 (s.signExtend 32)))) : Ideal .bf16) = weight f lo hi q s d := by
  have h32 : (FloatOps.ofBits .bf16 0x4200#16 : Ideal .bf16) = ((32 : ℝ) : EReal) := by
    show Ideal.ofBits .bf16 0x4200#16 = _
    simp [Ideal.ofBits, Ideal.ieee, -EReal.coe_mul]
    norm_num
  have hs : (FloatOps.sitofp .f32 (s.signExtend 32) : Ideal .f32) = ((s.toInt : ℝ) : EReal) := by
    show (((s.signExtend 32).toInt : ℝ) : EReal) = _
    rw [BitVec.toInt_signExtend_of_le (by decide)]
  have hc : (FloatOps.sitofp .bf16 (code f lo hi q) : Ideal .bf16) = (((code f lo hi q).toInt : ℝ) : EReal) := rfl
  rw [h32, hs, hc]
  unfold weight
  rw [EReal.coe_sub]
  rfl

/-- The reference's product of the activations with one set of weights at an index. -/
theorem gate_total (x0 : (⟨S256x1x4096, .bf16⟩ : BufTy).Contents (Elt Ideal)) (x1 : (⟨S14336x16x2x64, .i8⟩ : BufTy).Contents (Elt Ideal))
    (x2 : (⟨S14336x16x2x32, .i8⟩ : BufTy).Contents (Elt Ideal)) (x3 : (⟨S14336x16x16, .i8⟩ : BufTy).Contents (Elt Ideal))
    (x4 : (⟨S14336x16, .i16⟩ : BufTy).Contents (Elt Ideal)) (i : Fin 256) (o : Fin 14336) :
    val_main_v128 x0 x1 x2 x3 x4 (ix3 i 0 o) = rowTotal x0 x1 x2 x3 x4 i o := by
  rw [gate_eq]
  have key (f : Fin 4) : dotField x0 (codes x1 x2 f) (val_main_v76 x3 x4) f (ix3 i 0 o) = ∑ n : Fin 16, ∑ h : Fin 2, ∑ l : Fin 32,
      x0 (ix3 i 0 ⟨256 * n.val + 128 * h.val + 32 * f.val + l.val, by omega⟩) *
        weight f (x1 (ix4 o n h ⟨l.val, by omega⟩)) (x1 (ix4 o n h ⟨32 + l.val, by omega⟩)) (x2 (ix4 o n h l))
          (x3 (ix3 o n ⟨8 * h.val + 2 * f.val + l.val / 16, by omega⟩)) (x4 (ix2 o n)) := by
    rw [dotField_apply]
    refine Finset.sum_congr rfl fun n _ => Finset.sum_congr rfl fun h _ => Finset.sum_congr rfl fun l _ => ?_
    rw [xField_apply, wField_apply, scale_apply, codes_apply, half_apply, rHalfOne_ideal, weight_ref]
  show dotField x0 (codes x1 x2 0) (val_main_v76 x3 x4) 0 (ix3 i 0 o) + dotField x0 (codes x1 x2 1) (val_main_v76 x3 x4) 1 (ix3 i 0 o)
    + dotField x0 (codes x1 x2 2) (val_main_v76 x3 x4) 2 (ix3 i 0 o) + dotField x0 (codes x1 x2 3) (val_main_v76 x3 x4) 3 (ix3 i 0 o) = _
  refine (Fin.sum_univ_four fun f => dotField x0 (codes x1 x2 f) (val_main_v76 x3 x4) f (ix3 i 0 o)).symm.trans ?_
  simp only [key]
  unfold rowTotal total
  refine Finset.sum_comm.trans (Finset.sum_congr rfl fun n _ => Finset.sum_comm)

/-- The reference's result at an index. -/
theorem result_apply (x0 : (⟨S256x1x4096, .bf16⟩ : BufTy).Contents (Elt Ideal)) (x1 : (⟨S14336x16x2x64, .i8⟩ : BufTy).Contents (Elt Ideal))
    (x2 : (⟨S14336x16x2x32, .i8⟩ : BufTy).Contents (Elt Ideal)) (x3 : (⟨S14336x16x16, .i8⟩ : BufTy).Contents (Elt Ideal))
    (x4 : (⟨S14336x16, .i16⟩ : BufTy).Contents (Elt Ideal)) (x5 : (⟨S14336x16x2x64, .i8⟩ : BufTy).Contents (Elt Ideal))
    (x6 : (⟨S14336x16x2x32, .i8⟩ : BufTy).Contents (Elt Ideal)) (x7 : (⟨S14336x16x16, .i8⟩ : BufTy).Contents (Elt Ideal))
    (x8 : (⟨S14336x16, .i16⟩ : BufTy).Contents (Elt Ideal)) (i : Fin 256) (o : Fin 14336) :
    val_main_v266 x0 x1 x2 x3 x4 x5 x6 x7 x8 (ix2 i o) = swish (rowTotal x0 x1 x2 x3 x4 i o) (rowTotal x0 x5 x6 x7 x8 i o) := by
  have e : idx_main_v266 (ix2 i o) = ix3 i 0 o := by
    funext a
    match a with
    | ⟨0, _⟩ => exact Fin.ext (by show (i.val * 14336 + o.val) / 14336 = i.val; omega)
    | ⟨1, _⟩ => rfl
    | ⟨2, _⟩ => exact Fin.ext (by show (i.val * 14336 + o.val) % 14336 = o.val; omega)
  rw [val_main_v266_apply, e, val_main_v265_apply, val_main_v264_apply, val_main_v263_apply, val_main_v262_apply, val_main_v261_apply,
    val_main_v260_apply, val_main_v259_apply, val_main_v258_apply, val_main_v257_apply, up_eq, val_main_cst_62_apply, val_main_cst_63_apply]
  rw [gate_total, gate_total]
  generalize rowTotal x0 x1 x2 x3 x4 i o = g
  generalize rowTotal x0 x5 x6 x7 x8 i o = u
  have h1 : (FloatOps.ofBits .f32 0x3F800000#32 : Ideal .f32) = (1 : EReal) := Ideal.ofBits_one_f32
  rw [h1]
  rfl

end Cert.Proof
-- ==== Proof.Algebraic.lean ====
/- The kernel's result equals the reference's over the extended reals. -/
module

public import proofs.«01_k».proof.Proof.Block
public import proofs.«01_k».proof.Proof.RefRead
public import proofs.«01_k».proof.Defs

@[expose] public section

set_option maxRecDepth 16384

noncomputable section

namespace Cert.Proof

open Idealize.ShloMosaic Idealize.ShloMosaic.TcCoe Idealize.SL.Sem
open Idealize.ShloMosaic.StableHlo

/-- The reference's result of the kernel's arrays is the kernel's result. -/
theorem reference_eq (m : (ℓ : Loc Cert.KernelIdeal.nD Cert.KernelIdeal.τ Cert.KernelIdeal.sig) → Buf (Elt Ideal) ℓ) (c : Dev Cert.KernelIdeal.nD) :
    Cert.ReferenceIdeal.Read.val_main_v266 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8)) = resultOf m c := by
  funext j
  have hj : j = (ix2 (j 0) (j 1) : Cert.KernelIdeal.S256x14336.Idx) := eq_ix2 j
  rw [hj]
  exact result_apply _ _ _ _ _ _ _ _ _ (j 0) (j 1)

/-- On equal arguments the kernel and the reference leave equal results: over the extended reals every element of the kernel's
result is the gate product, times its logistic, times the up product, as the reference has it. -/
theorem algebraic : Cert.algebraic_KernelIdeal_ReferenceIdeal := by
  intro m g m' g' _ hargs
  refine ⟨resultOf m, ?_, ?_⟩
  · exact (θ_run Cert.KernelIdeal.defs _ _).mono (fun r h c => ⟨(h c).1.trans (final_eq m c), (h c).2⟩) (Cert.KernelIdeal.Value.run_blocks m g)
  · refine (θ_run Cert.ReferenceIdeal.defs _ _).mono (fun r h c => ⟨?_, (h c).2⟩) (Cert.ReferenceIdeal.Value.run m' g')
    refine (h c).1.trans ((Cert.ReferenceIdeal.Read.val_main_v266_eq (launchContents m' c)).trans (Eq.trans ?_ (reference_eq m c)))
    obtain ⟨h0, h1, h2, h3, h4, h5, h6, h7, h8⟩ := hargs c
    exact congr (congr (congr (congr (congr (congr (congr (congr (congrArg (Cert.ReferenceIdeal.Read.val_main_v266 (F := Ideal)) h0) h1) h2) h3) h4) h5) h6) h7) h8

end Cert.Proof
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal

@[expose] public section

namespace Cert.Proof

/-- The five claims: the frames of the kernel, of its idealization and of the reference, that the idealization is the kernel rewritten
    by two rules, and that over the extended reals the kernel's result is the reference's. -/
theorem claim : Cert.Claim :=
  ⟨Cert.Kernel.Gen.facts, Cert.KernelIdeal.Gen.facts, Cert.ReferenceIdeal.Gen.facts,
    frame_kernel, frame_ideal, frame_reference, preserves, algebraic⟩

end Cert.Proof
